-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x2048 : Shape := ⟨2, ![512, 2048]⟩
abbrev S3x2x512x512 : Shape := ⟨4, ![3, 2, 512, 512]⟩
abbrev S2x2x512x512 : Shape := ⟨4, ![2, 2, 512, 512]⟩
abbrev S3x2 : Shape := ⟨2, ![3, 2]⟩
abbrev S_ : Shape := ⟨0, ![]⟩
abbrev S512x512 : Shape := ⟨2, ![512, 512]⟩
abbrev S1x1x512x512 : Shape := ⟨4, ![1, 1, 512, 512]⟩
abbrev S1x1 : Shape := ⟨2, ![1, 1]⟩

abbrev nBuf : Space → Nat
  | .hbm => 3
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S512x2048, .f32⟩
  | .local _ .vmem, ⟨0, _⟩ => ⟨S2048x512, .f32⟩
  | .local _ .vmem, ⟨1, _⟩ => ⟨S512x2048, .f32⟩
  | .local _ .vmem, ⟨2, _⟩ => ⟨S512x2048, .f32⟩
  | .local _ .vmem, ⟨3, _⟩ => ⟨S3x2x512x512, .bf16⟩
  | .local _ .vmem, ⟨4, _⟩ => ⟨S3x2x512x512, .bf16⟩
  | .local _ .vmem, ⟨5, _⟩ => ⟨S3x2x512x512, .bf16⟩
  | .local _ .vmem, ⟨6, _⟩ => ⟨S3x2x512x512, .bf16⟩
  | .local _ .vmem, ⟨7, _⟩ => ⟨S2x2x512x512, .f32⟩
  | .local _ .vmem, ⟨8, _⟩ => ⟨S2x2x512x512, .f32⟩
  | .local _ .vmem, ⟨9, _⟩ => ⟨S512x2048, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 2 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c0_i32_21 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_20 : BitVec 32 := 4#32
  let v31 : BitVec 32 := Scalar.addi v2 c4_i32_20
  let v32 : BitVec 32 := Scalar.subi v31 c0_i32_21
  let c1_i32_22 : BitVec 32 := 1#32
  let v33 : BitVec 32 := Scalar.subi v32 c1_i32_22
  let c4_i32_23 : BitVec 32 := 4#32
  let c0_i32_24 : BitVec 32 := 0#32
  let v34 : BitVec 1 := Scalar.cmpi .eq c4_i32_23 c0_i32_24
  let c1_i32_25 : BitVec 32 := 1#32
  let v35 : BitVec 32 := Scalar.select v34 c1_i32_25 c4_i32_23
  let v36 : BitVec 32 := Scalar.remsi v33 v35
  let c0_i32_27 : BitVec 32 := 0#32
  let v38 : BitVec 1 := Scalar.cmpi .slt v36 c0_i32_27
  let c0_i32_28 : BitVec 32 := 0#32
  let v39 : BitVec 1 := Scalar.cmpi .slt v35 c0_i32_28
  let v40 : BitVec 1 := Scalar.xori v38 v39
  let c0_i32_26 : BitVec 32 := 0#32
  let v37 : BitVec 1 := Scalar.cmpi .ne v36 c0_i32_26
  let v41 : BitVec 1 := Scalar.andi v40 v37
  let v42 : BitVec 32 := Scalar.addi v36 v35
  let v43 : BitVec 32 := Scalar.select v41 v42 v36
  let c512_i32 : BitVec 32 := 512#32
  let v44 : BitVec 32 := Scalar.muli v43 c512_i32
  let v45 : Index := Scalar.indexCast v44
  let c0 : Index := 0#32
  ![v45.toNat, 0]
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_43 : BitVec 32 := 1#32
  let v55 : BitVec 32 := Scalar.muli v25 c1_i32_43
  let v56 : BitVec 32 := Scalar.addi c0_i32_44 v55
  v56.toNat
def k0_off2 (d0 : Dev nD) (c0_i32_49 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v65 : BitVec 32 := Scalar.addi v2 c0_i32_49
  let c1_i32_50 : BitVec 32 := 1#32
  let v66 : BitVec 32 := Scalar.addi v65 c1_i32_50
  let c4_i32_51 : BitVec 32 := 4#32
  let c0_i32_52 : BitVec 32 := 0#32
  let v67 : BitVec 1 := Scalar.cmpi .eq c4_i32_51 c0_i32_52
  let c1_i32_53 : BitVec 32 := 1#32
  let v68 : BitVec 32 := Scalar.select v67 c1_i32_53 c4_i32_51
  let v69 : BitVec 32 := Scalar.remsi v66 v68
  let c0_i32_55 : BitVec 32 := 0#32
  let v71 : BitVec 1 := Scalar.cmpi .slt v69 c0_i32_55
  let c0_i32_56 : BitVec 32 := 0#32
  let v72 : BitVec 1 := Scalar.cmpi .slt v68 c0_i32_56
  let v73 : BitVec 1 := Scalar.xori v71 v72
  let c0_i32_54 : BitVec 32 := 0#32
  let v70 : BitVec 1 := Scalar.cmpi .ne v69 c0_i32_54
  let v74 : BitVec 1 := Scalar.andi v73 v70
  let v75 : BitVec 32 := Scalar.addi v69 v68
  let v76 : BitVec 32 := Scalar.select v74 v75 v69
  let c512_i32_57 : BitVec 32 := 512#32
  let v77 : BitVec 32 := Scalar.muli v76 c512_i32_57
  let v78 : Index := Scalar.indexCast v77
  let c0_58 : Index := 0#32
  ![v78.toNat, 0]
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_73 : BitVec 32 := 1#32
  let v88 : BitVec 32 := Scalar.muli v14 c1_i32_73
  let v89 : BitVec 32 := Scalar.addi c0_i32_74 v88
  v89.toNat
def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_103 : BitVec 32 := 1#32
  let v122 : BitVec 32 := Scalar.muli v25 c1_i32_103
  let v123 : BitVec 32 := Scalar.addi c0_i32_104 v122
  v123.toNat
def k0_dev6 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_133 : BitVec 32 := 1#32
  let v155 : BitVec 32 := Scalar.muli v14 c1_i32_133
  let v156 : BitVec 32 := Scalar.addi c0_i32_134 v155
  v156.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_279 : BitVec 32 := 512#32
  let v345 : BitVec 32 := Scalar.muli v2 c512_i32_279
  let v346 : Index := Scalar.indexCast v345
  let c0_280 : Index := 0#32
  ![v346.toNat, 0]
def k0_dev7 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_320 : BitVec 32 := 1#32
  let v373 : BitVec 32 := Scalar.muli v25 c1_i32_320
  let v374 : BitVec 32 := Scalar.addi c0_i32_321 v373
  v374.toNat
def k0_dev8 (d0 : Dev nD) : Nat :=
  let c0_i32_361 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_360 : BitVec 32 := 1#32
  let v401 : BitVec 32 := Scalar.muli v14 c1_i32_360
  let v402 : BitVec 32 := Scalar.addi c0_i32_361 v401
  v402.toNat
def k0_dev9 (d0 : Dev nD) : Nat :=
  let c0_i32_401 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_400 : BitVec 32 := 1#32
  let v429 : BitVec 32 := Scalar.muli v25 c1_i32_400
  let v430 : BitVec 32 := Scalar.addi c0_i32_401 v429
  v430.toNat
def k0_dev10 (d0 : Dev nD) : Nat :=
  let c0_i32_441 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_440 : BitVec 32 := 1#32
  let v457 : BitVec 32 := Scalar.muli v14 c1_i32_440
  let v458 : BitVec 32 := Scalar.addi c0_i32_441 v457
  v458.toNat
def k0_dev11 (d0 : Dev nD) : Nat :=
  let c0_i32_480 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_479 : BitVec 32 := 1#32
  let v485 : BitVec 32 := Scalar.muli v25 c1_i32_479
  let v486 : BitVec 32 := Scalar.addi c0_i32_480 v485
  v486.toNat
def k0_dev12 (d0 : Dev nD) : Nat :=
  let c0_i32_520 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_519 : BitVec 32 := 1#32
  let v513 : BitVec 32 := Scalar.muli v14 c1_i32_519
  let v514 : BitVec 32 := Scalar.addi c0_i32_520 v513
  v514.toNat
def k0_dev13 (d0 : Dev nD) : Nat :=
  let c0_i32_560 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_559 : BitVec 32 := 1#32
  let v541 : BitVec 32 := Scalar.muli v25 c1_i32_559
  let v542 : BitVec 32 := Scalar.addi c0_i32_560 v541
  v542.toNat
def k0_dev14 (d0 : Dev nD) : Nat :=
  let c0_i32_600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_599 : BitVec 32 := 1#32
  let v569 : BitVec 32 := Scalar.muli v14 c1_i32_599
  let v570 : BitVec 32 := Scalar.addi c0_i32_600 v569
  v570.toNat
def k0_dev15 (d0 : Dev nD) : Nat :=
  let c0_i32_867_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_866_r0 : BitVec 32 := 1#32
  let v760_r0 : BitVec 32 := Scalar.muli v14 c1_i32_866_r0
  let v761_r0 : BitVec 32 := Scalar.addi c0_i32_867_r0 v760_r0
  v761_r0.toNat
def k0_dev16 (d0 : Dev nD) : Nat :=
  let c0_i32_870_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_869_r0 : BitVec 32 := 1#32
  let v762_r0 : BitVec 32 := Scalar.muli v25 c1_i32_869_r0
  let v763_r0 : BitVec 32 := Scalar.addi c0_i32_870_r0 v762_r0
  v763_r0.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Owned.lean ====
/-
Reading and writing through parts of a buffer that are owned one by one.

A buffer is owned whole (`owns c m q X`) or slice by slice (`owns c (m.slice r hr) q X`), always with the
contents it is read at. The rules below are the load and the store in that form, and the split of a whole
buffer into the slices of a disjoint covering family and back when the contents no longer matter.
-/
module

public import Idealize.ShloMosaic.Lib.Memref
public import Idealize.ShloMosaic.Lib.Ring
public import Idealize.ShloMosaic.Lib.Tactic

@[expose] public section

noncomputable section

namespace Cert.Owned

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels}
local notation "𝕄" => MT nD τ sig Ix Val Name U Lvl

section Rules

variable [Preorder Lvl] {defs : Defs nD τ sig Val Λ} (𝒱 : Variants) (c : Thread nD τ) (bd : Option 𝒱.V) (E : Set Name)
variable {cs : CoreSpace} {s : Shape} {e : EltTy}
variable {α : Type} {Q : α → sProp (MT nD τ sig Ix Val Name U Lvl)}

/-- A load of a rectangle of a buffer owned whole at `X` reads `X` on the rectangle. -/
theorem load_whole {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k fun j => X (r.emb j)) Q)
        -∗ wp frame (wpE defs 𝒱 c bd) E (.op (.load m r.toLoadRect hl) k) Q) := by
  unfold owns
  iintro ⟨%f, %hf, H⟩ Hk
  subst hf
  iapply (wp_load_rect 𝒱 c bd E (m := m) (r := r) (k := k) (S := m.view.set) (f := f) (View.set_slice_subset _ _)) $$ H
  iintro H
  iapply Hk
  iexists f
  isplitr; · ipureintro; rfl
  iexact H

/-- A load of a rectangle whose slice is owned at `X` reads `X`. -/
theorem load_slice {m : Memref sig c.2.kind cs s e} {r : Rect s} {hr : ∀ a, r.stride a = 1} {hl : m.view.LoadsAt r.toLoadRect}
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE defs 𝒱 c bd) E (k X) Q)
        -∗ wp frame (wpE defs 𝒱 c bd) E (.op (.load m r.toLoadRect hl) k) Q) := by
  unfold owns
  iintro ⟨%f, %hf, H⟩ Hk
  subst hf
  iapply (wp_load_rect 𝒱 c bd E (m := m) (r := r) (k := k) (S := (m.slice r hr).view.set) (f := f) (Finset.Subset.refl _)) $$ H
  iintro H
  iapply Hk
  iexists f
  isplitr; · ipureintro; rfl
  iexact H

/-- A store through a rectangle whose slice is owned, at any contents, leaves the slice owned at what was stored. -/
theorem store_slice {m : Memref sig c.2.kind cs s e} {r : Rect s} {hr : ∀ a, r.stride a = 1} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (w := w) (Mk := Finset.univ) (k := k) (S := (m.slice r hr).view.set) (f := f)
    (View.setOn_subset_set _ _)) $$ H
  iintro H
  iapply Hk
  iexists _
  isplitr
  · ipureintro; exact View.read_write_univ f w
  iexact H

/-- A store through a rectangle that is the whole buffer leaves the buffer owned at what was stored. -/
theorem store_whole {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} {g : s.Idx → r.shape.Idx} (hg : ∀ j, r.emb (g j) = j) :
    (owns c m fullShare X : sProp 𝕄)
      ⊢ iprop((owns c m fullShare (fun j => w (g j)) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (w := w) (Mk := Finset.univ) (k := k) (S := m.view.set) (f := f)
    ((View.setOn_subset_set _ _).trans (View.set_slice_subset _ _))) $$ H
  iintro H
  iapply Hk
  iexists _
  isplitr
  · ipureintro
    funext j
    have h := congrFun (View.read_write_univ (v := m.access r) f w) (g j)
    rw [← h]
    show _ = m.view.read Val _ (r.emb (g j))
    rw [hg j]
  iexact H

end Rules

section Split

variable (c : Thread nD τ) (b : Ref sig c.2.kind)
variable {T : Type} [Fintype T] [DecidableEq T] (r : T → Rect b.ty.shape) (hr : ∀ t a, (r t).stride a = 1)
  (hd : ∀ t t', t ≠ t' → Disjoint (r t).set (r t').set)
  (hcov : (Finset.univ : Finset T).biUnion (fun t => (r t).set) = Finset.univ)

include hd hcov in
/-- A whole buffer at some contents is every slice of a disjoint covering family at some contents. -/
theorem split_any :
    (iprop(∃ f, (c.loc b) ↦{fullShare} f) : sProp 𝕄)
      ⊢ bigSep Finset.univ fun t => iprop(∃ X, owns c ((Memref.whole b).slice (r t) (hr t)) fullShare X) := by
  iintro ⟨%f, H⟩
  iapply (show ((c.loc b) ↦{fullShare} f : sProp 𝕄) ⊢ _ from by
    rw [← owns_whole c b fullShare f]
    refine (owns_rects c (Memref.whole b) fullShare r hr hd hcov f).trans (bigSep_mono fun t _ => ?_)
    show owns c ((Memref.whole b).slice (r t) (hr t)) fullShare (fun j => f ((r t).emb j)) ⊢ iprop(∃ X, owns c ((Memref.whole b).slice (r t) (hr t)) fullShare X)
    iintro H; iexists _; iexact H)
  iexact H

include hd hcov in
/-- Every slice of a disjoint covering family at some contents is the whole buffer at some contents. -/
theorem join_any [Inhabited ((c.loc b).2.ty.Contents Val)] :
    (bigSep Finset.univ fun t => iprop(∃ X, owns c ((Memref.whole b).slice (r t) (hr t)) fullShare X) : sProp 𝕄)
      ⊢ iprop(∃ f, (c.loc b) ↦{fullShare} f) := by
  have hset (t : T) : ((Memref.whole b).slice (r t) (hr t)).view.set = (r t).set := View.set_slice_whole _ _
  refine (bigSep_mono fun t _ => ?_).trans (Ring.pointsTo_blocks_join_exists (ℓ := c.loc b) (q := fullShare) (fun t => (r t).set) hd hcov default)
  show iprop(∃ X, owns c ((Memref.whole b).slice (r t) (hr t)) fullShare X) ⊢ iprop(∃ f, (c.loc b) ↦[(r t).set]{fullShare} f)
  unfold owns
  iintro ⟨%X, %f, -, H⟩
  iexists f
  rw [← hset t]
  iexact H

end Split

end Cert.Owned

end
-- ==== Proof.KernelIdealProto.lean ====
/-
The protocol of the kernel: four devices in a ring, two opposite streams of transfers.

A transfer is named by its slot `(d, s, q)`: the direction `d` (`true` to the next device, `false` to the
previous one), the hop `s` and the column half `q`. For every slot a device has a source slot, a landing slot,
a semaphore its own copy completes on and a semaphore the copy that lands at it completes on. Two more
semaphores count the entry and the exit handshake with both neighbours.

This module states the slots, the cells, what every slot holds when it is sent, the schedule of all cells
(who pays what and hands over what), what a device owes at each point of its program, and that each wait
stands below everything still owed.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Owned
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-! ## The ring -/

/-- The device after `c` and the device before it, around the ring. -/
def nxt (c : Dev nD) : Dev nD := (c + 1 : Fin 4)
def prv (c : Dev nD) : Dev nD := (c + 3 : Fin 4)

/-- The device before the next one is the device itself; -/
theorem prv_nxt (c : Dev nD) : prv (nxt c) = c := by revert c; decide
/-- and so is the next of the one before. -/
theorem nxt_prv (c : Dev nD) : nxt (prv c) = c := by revert c; decide

/-- Going around by one, in direction `d`. -/
def dst (d : Bool) (c : Dev nD) : Dev nD := match d with | true => nxt c | false => prv c

/-- One step one way and one the other way return to the device, -/
theorem dst_dst (d : Bool) (c : Dev nD) : dst d (dst (!d) c) = c := by cases d <;> [exact prv_nxt c; exact nxt_prv c]
/-- in either order. -/
theorem dst_dst' (d : Bool) (c : Dev nD) : dst (!d) (dst d c) = c := by cases d <;> [exact nxt_prv c; exact prv_nxt c]

/-- The rotation of all devices by one in direction `d`. -/
def rot (d : Bool) : Dev nD ≃ Dev nD := ⟨dst d, dst (!d), dst_dst' d, dst_dst d⟩

/-- The devices the program addresses, in program order: the two entry signals, the twelve transfers, the two exit signals. -/
theorem dev1_eq (c : Dev nD) : (⟨k0_dev1 c, k0_dev1_lt c⟩ : Dev nD) = dst false c := by revert c; decide +kernel
theorem dev2_eq (c : Dev nD) : (⟨k0_dev2 c, k0_dev2_lt c⟩ : Dev nD) = dst true c := by revert c; decide +kernel
theorem dev3_eq (c : Dev nD) : (⟨k0_dev3 c, k0_dev3_lt c⟩ : Dev nD) = dst true c := by revert c; decide +kernel
theorem dev4_eq (c : Dev nD) : (⟨k0_dev4 c, k0_dev4_lt c⟩ : Dev nD) = dst false c := by revert c; decide +kernel
theorem dev5_eq (c : Dev nD) : (⟨k0_dev5 c, k0_dev5_lt c⟩ : Dev nD) = dst true c := by revert c; decide +kernel
theorem dev6_eq (c : Dev nD) : (⟨k0_dev6 c, k0_dev6_lt c⟩ : Dev nD) = dst false c := by revert c; decide +kernel
theorem dev7_eq (c : Dev nD) : (⟨k0_dev7 c, k0_dev7_lt c⟩ : Dev nD) = dst true c := by revert c; decide +kernel
theorem dev8_eq (c : Dev nD) : (⟨k0_dev8 c, k0_dev8_lt c⟩ : Dev nD) = dst false c := by revert c; decide +kernel
theorem dev9_eq (c : Dev nD) : (⟨k0_dev9 c, k0_dev9_lt c⟩ : Dev nD) = dst true c := by revert c; decide +kernel
theorem dev10_eq (c : Dev nD) : (⟨k0_dev10 c, k0_dev10_lt c⟩ : Dev nD) = dst false c := by revert c; decide +kernel
theorem dev11_eq (c : Dev nD) : (⟨k0_dev11 c, k0_dev11_lt c⟩ : Dev nD) = dst true c := by revert c; decide +kernel
theorem dev12_eq (c : Dev nD) : (⟨k0_dev12 c, k0_dev12_lt c⟩ : Dev nD) = dst false c := by revert c; decide +kernel
theorem dev13_eq (c : Dev nD) : (⟨k0_dev13 c, k0_dev13_lt c⟩ : Dev nD) = dst true c := by revert c; decide +kernel
theorem dev14_eq (c : Dev nD) : (⟨k0_dev14 c, k0_dev14_lt c⟩ : Dev nD) = dst false c := by revert c; decide +kernel
theorem dev15_eq (c : Dev nD) : (⟨k0_dev15 c, k0_dev15_lt c⟩ : Dev nD) = dst false c := by revert c; decide +kernel
theorem dev16_eq (c : Dev nD) : (⟨k0_dev16 c, k0_dev16_lt c⟩ : Dev nD) = dst true c := by revert c; decide +kernel

/-! ## The slots and the buffers -/

/-- A transfer: direction, hop, column half. -/
abbrev Slot : Type := Bool × Fin 3 × Fin 2
/-- A product kept for a later hop: direction, which (for hop 1 or hop 2), column half. -/
abbrev Kept : Type := Bool × Fin 2 × Fin 2

/-- A slot lies inside its buffer. -/
theorem slot_inb (k : Fin 3 × Fin 2) : ∀ a : Fin 4, (![k.1.val, k.2.val, 0, 0] : Fin 4 → ℕ) a + S1x1x512x512.size a ≤ S3x2x512x512.size a := by
  revert k; decide
/-- A kept product lies inside its buffer. -/
theorem kept_inb (k : Fin 2 × Fin 2) : ∀ a : Fin 4, (![k.1.val, k.2.val, 0, 0] : Fin 4 → ℕ) a + S1x1x512x512.size a ≤ S2x2x512x512.size a := by
  revert k; decide
/-- A quarter of the columns lies inside the array. -/
theorem col_inb (j : Fin 4) : ∀ a : Fin 2, (![0, 512 * j.val] : Fin 2 → ℕ) a + S512x512.size a ≤ S512x2048.size a := by
  revert j; decide
/-- A slot's semaphore lies inside its array. -/
theorem sem_inb (k : Fin 3 × Fin 2) : ∀ a : Fin 2, (![k.1.val, k.2.val] : Fin 2 → ℕ) a + S1x1.size a ≤ S3x2.size a := by
  revert k; decide

/-- The part of a 3×2 buffer a slot is, of a 2×2 buffer a kept product is, and a quarter of the columns. -/
abbrev slotRect (k : Fin 3 × Fin 2) : Rect S3x2x512x512 := Rect.unit (s := S3x2x512x512) ![k.1.val, k.2.val, 0, 0] S1x1x512x512.size (slot_inb k)
abbrev keptRect (k : Fin 2 × Fin 2) : Rect S2x2x512x512 := Rect.unit (s := S2x2x512x512) ![k.1.val, k.2.val, 0, 0] S1x1x512x512.size (kept_inb k)
abbrev colRect (j : Fin 4) : Rect S512x2048 := Rect.unit (s := S512x2048) ![0, 512 * j.val] S512x512.size (col_inb j)

abbrev xM : Memref sig .tc .vmem S2048x512 .f32 := Memref.whole cc0_stg0_0
abbrev wM : Memref sig .tc .vmem S512x2048 .f32 := Memref.whole cc0_stg1_0
abbrev oM : Memref sig .tc .vmem S512x2048 .f32 := Memref.whole cc0_stg2_0
abbrev ownM : Memref sig .tc .vmem S512x2048 .f32 := Memref.whole cc0_scratch6
/-- The source, the landing and the kept-product buffer of a direction. -/
abbrev sBuf (d : Bool) : Ref sig .tc := match d with | true => cc0_scratch0 | false => cc0_scratch1
abbrev lBuf (d : Bool) : Ref sig .tc := match d with | true => cc0_scratch2 | false => cc0_scratch3
abbrev pBuf (d : Bool) : Ref sig .tc := match d with | true => cc0_scratch4 | false => cc0_scratch5
abbrev sAll (d : Bool) : Memref sig .tc .vmem S3x2x512x512 .bf16 := match d with | true => Memref.whole cc0_scratch0 | false => Memref.whole cc0_scratch1
abbrev lAll (d : Bool) : Memref sig .tc .vmem S3x2x512x512 .bf16 := match d with | true => Memref.whole cc0_scratch2 | false => Memref.whole cc0_scratch3
abbrev pAll (d : Bool) : Memref sig .tc .vmem S2x2x512x512 .f32 := match d with | true => Memref.whole cc0_scratch4 | false => Memref.whole cc0_scratch5
abbrev sM (k : Slot) : Memref sig .tc .vmem S1x1x512x512 .bf16 := (sAll k.1).slice (slotRect k.2) (fun _ => rfl)
abbrev lM (k : Slot) : Memref sig .tc .vmem S1x1x512x512 .bf16 := (lAll k.1).slice (slotRect k.2) (fun _ => rfl)
abbrev pM (k : Kept) : Memref sig .tc .vmem S1x1x512x512 .f32 := (pAll k.1).slice (keptRect k.2) (fun _ => rfl)

/-- The semaphores: the runtime's barrier, the kernel's own one for the exit, a send and a receive one per slot. -/
abbrev barS : Sem sig := (SemArray.scalar (sig.barrier 0 rfl) : Sems sig S_).sem
abbrev exitS : Sem sig := (cc0_scoped0 : Sems sig S_).sem
abbrev sArr (d : Bool) : DmaSems sig S3x2 := match d with | true => cc0_scratch7 | false => cc0_scratch9
abbrev rArr (d : Bool) : DmaSems sig S3x2 := match d with | true => cc0_scratch8 | false => cc0_scratch10
abbrev slotSem (A : DmaSems sig S3x2) (k : Fin 3 × Fin 2) : DmaSem sig :=
  ((A.slice (Rect.unit (s := S3x2) ![k.1.val, k.2.val] S1x1.size (sem_inb k))).squeeze S_ squeezes_S1x1_S_).sem
abbrev sSem (k : Slot) : DmaSem sig := slotSem (sArr k.1) k.2
abbrev rSem (k : Slot) : DmaSem sig := slotSem (rArr k.1) k.2

/-- The cells of a device: entry (`inl false`) and exit (`inl true`) handshake, send (`inr (false, k)`) and receive (`inr (true, k)`) cell of slot `k`. -/
abbrev Cix : Type := Bool ⊕ (Bool × Slot)
def csem : Cix → SemLoc sig
  | .inl false => .reg barS
  | .inl true => .reg exitS
  | .inr (false, k) => .dma (sSem k)
  | .inr (true, k) => .dma (rSem k)

abbrev cell (c : Dev nD) (i : Cix) : GSem nD τ sig := ((c : Thread nD τ), csem i)

/-- Which cell a semaphore is. -/
def decode (s : SemLoc sig) : Option Cix :=
  (([.inl false, .inl true] : List Cix) ++
    ([false, true].flatMap fun b => [false, true].flatMap fun d => [0, 1, 2].flatMap fun h => [0, 1].map fun q => (.inr (b, d, h, q) : Cix))).find?
    fun i => csem i = s

/-- A cell's semaphore tells the cell. -/
theorem decode_csem (i : Cix) : decode (csem i) = some i := by revert i; decide +kernel
/-- Different cells have different semaphores. -/
theorem csem_injective : Function.Injective csem := fun i j h => Option.some.inj (by rw [← decode_csem, ← decode_csem, h])
/-- The staging's semaphores are no cell's. -/
theorem decode_stage (w : Fin cfg0.W) (s : Fin (cfg0.win w).nbuf) : decode (.dma ((cfg0.win w).sem s)) = none := by
  revert w s; decide +kernel

/-! ## Contents -/

/-- What the launch brings to device `c`: its columns of `x` and its rows of `w`. -/
def xstg (c : Dev nD) : S2048x512.Idx → Elt F .f32 :=
  (win0_0.blk (0 : Fin 1)).view.read (Elt F) ((s₀ m ρ).mem ((c : Thread nD τ).loc main_arg0))
def wstg (c : Dev nD) : S512x2048.Idx → Elt F .f32 :=
  (win0_1.blk (0 : Fin 1)).view.read (Elt F) ((s₀ m ρ).mem ((c : Thread nD τ).loc main_arg1))

/-- The rows of `x` that the partial product of hop `h` in direction `d` takes, as the program computes where they start. -/
abbrev xRect (d : Bool) (h : Fin 3) (c : Dev nD) : Rect S2048x512 := match d with
  | true => Rect.unit (s := S2048x512) (k0_off1 c (BitVec.ofNat 32 h.val)) S512x512.size (k0_off1_inb c h)
  | false => Rect.unit (s := S2048x512) (k0_off2 c (BitVec.ofNat 32 h.val)) S512x512.size (k0_off2_inb c h)
/-- The quarter of the columns that a direction's half `q` is. -/
def col (d : Bool) (q : Fin 2) : Fin 4 := match d, q with | true, 0 => 0 | true, 1 => 1 | false, 0 => 2 | false, 1 => 3

def xRows (d : Bool) (h : Fin 3) (c : Dev nD) : S512x512.Idx → Elt F .f32 := match d with
  | true => fun j => xstg m ρ c ((xRect true h c).emb j)
  | false => fun j => xstg m ρ c ((xRect false h c).emb j)
def wCols (j : Fin 4) (c : Dev nD) : S512x512.Idx → Elt F .f32 := fun i => wstg m ρ c ((colRect j).emb i)

/-- The product device `c` keeps for hop `h` (`h` is 1 or 2). -/
def kept (d : Bool) (h : Fin 3) (q : Fin 2) (c : Dev nD) : S1x1x512x512.Idx → Elt F .f32 := k0_pay9 (xRows m ρ d h c) (wCols m ρ (col d q) c)

/-- What device `c` sends at hop 0, 1 and 2: its product alone, then its product added to what landed one hop before. -/
def sent0 (d : Bool) (q : Fin 2) (c : Dev nD) : S1x1x512x512.Idx → Elt F .bf16 := k0_pay1 (xRows m ρ d 0 c) (wCols m ρ (col d q) c)
def sent1 (d : Bool) (q : Fin 2) (c : Dev nD) : S1x1x512x512.Idx → Elt F .bf16 := k0_pay18 (kept m ρ d 1 q c) (sent0 m ρ d q (dst (!d) c))
def sent2 (d : Bool) (q : Fin 2) (c : Dev nD) : S1x1x512x512.Idx → Elt F .bf16 := k0_pay18 (kept m ρ d 2 q c) (sent1 m ρ d q (dst (!d) c))
def sent (k : Slot) (c : Dev nD) : S1x1x512x512.Idx → Elt F .bf16 := match k with
  | (d, 0, q) => sent0 m ρ d q c
  | (d, 1, q) => sent1 m ρ d q c
  | (d, 2, q) => sent2 m ρ d q c

/-- The product of the device's own rows, over all columns. -/
def own (c : Dev nD) : S512x2048.Idx → Elt F .f32 :=
  k0_pay17 (fun j => xstg m ρ c ((Rect.unit (s := S2048x512) (k0_off3 c) S512x512.size (k0_off3_inb c)).emb j))
    (fun j => wstg m ρ c ((Rect.unit (s := S512x2048) ![0, 0] S512x2048.size inb_S512x2048_S512x2048_0_0).emb j))
/-- A quarter of the result: the own product there and the third landing, activated. -/
def outQ (d : Bool) (q : Fin 2) (c : Dev nD) : S512x512.Idx → Elt F .f32 :=
  k0_pay30 (fun i => own m ρ c ((colRect (col d q)).emb i)) (sent2 m ρ d q (dst (!d) c))

/-! ## The pieces a device holds -/

/-- The source slot, the landing slot and the kept product, at known contents and at any. -/
abbrev srcAt (c : Dev nD) (k : Slot) (X : S1x1x512x512.Idx → Elt F .bf16) : sProp 𝕄 := owns (c : Thread nD τ) (sM k) fullShare X
abbrev landAt (c : Dev nD) (k : Slot) (X : S1x1x512x512.Idx → Elt F .bf16) : sProp 𝕄 := owns (c : Thread nD τ) (lM k) fullShare X
abbrev keptAt (c : Dev nD) (k : Kept) (X : S1x1x512x512.Idx → Elt F .f32) : sProp 𝕄 := owns (c : Thread nD τ) (pM k) fullShare X
def srcAny (c : Dev nD) (k : Slot) : sProp 𝕄 := iprop(∃ X, srcAt c k X)
def landAny (c : Dev nD) (k : Slot) : sProp 𝕄 := iprop(∃ X, landAt c k X)
def keptAny (c : Dev nD) (k : Kept) : sProp 𝕄 := iprop(∃ X, keptAt c k X)
def landDir (c : Dev nD) (d : Bool) : sProp 𝕄 := bigSep Finset.univ fun k : Fin 3 × Fin 2 => landAny c (d, k)

omit [FloatOps F] in
instance srcAny_storable (c : Dev nD) (k) : BI.Storable (upEmb : UEmb _ 𝕄) (srcAny (F := F) c k) := by unfold srcAny; infer_instance
omit [FloatOps F] in
instance landAny_storable (c : Dev nD) (k) : BI.Storable (upEmb : UEmb _ 𝕄) (landAny (F := F) c k) := by unfold landAny; infer_instance
omit [FloatOps F] in
instance landDir_storable (c : Dev nD) (d) : BI.Storable (upEmb : UEmb _ 𝕄) (landDir (F := F) c d) := by unfold landDir; infer_instance

/-! ## The schedule -/

/-- The credit of one slot's transfer. -/
abbrev N : ℕ := ((lM (true, 0, 0)).squeeze S512x512 squeezes_S1x1x512x512_S512x512).view.dmaCredit
/-- A transfer is worth something. -/
theorem N_pos : 0 < N := View.dmaCredit_pos _ (by decide)

/-- The duties of a cell's one round. -/
def duties : Cix → Finset Bool
  | .inl _ => Finset.univ
  | .inr _ => {false}
/-- What the duty `d` of device `c`'s cell hands over: of the entry handshake, the landing slots for direction `d` of the
    device there; of the exit handshake, nothing; of a send cell, the source slot; of a receive cell, the landing slot
    holding what the device before sent. -/
def pay (c : Dev nD) : Cix → Bool → sProp 𝕄
  | .inl false, d => landDir (dst d c) d
  | .inl true, _ => iprop(emp)
  | .inr (false, k), _ => srcAny c k
  | .inr (true, k), _ => landAt c k (sent m ρ k (dst (!k.1) c))
def units : Cix → ℕ
  | .inl _ => 1
  | .inr _ => N

instance pay_storable (c : Dev nD) (i : Cix) (d : Bool) : BI.Storable (upEmb : UEmb _ 𝕄) (pay m ρ c i d) := by
  rcases i with (_ | _) | ⟨_ | _, k⟩ <;> (unfold pay; infer_instance)

/-- One round for every cell of the protocol, none for any other. -/
def rd : Rounds.Schedule (GSem nD τ sig) Bool 𝕄 where
  duties g r := if r = 0 ∧ g.1.2 = .tc then (match decode g.2 with | some i => duties i | none => ∅) else ∅
  unitless _ := False
  amount g _ _ := match decode g.2 with | some i => units i | none => 1
  payload g _ d := match decode g.2 with | some i => pay m ρ g.1.1 i d | none => iprop(emp)
  amount_pos g _ _ _ := by
    cases decode g.2 with
    | none => exact Nat.one_pos
    | some i => rcases i with _ | _; exacts [Nat.one_pos, N_pos]

instance rd_payload_storable (g : GSem nD τ sig) (r : ℕ) (d : Bool) :
    BI.Storable (upEmb : UEmb _ 𝕄) ((rd (F := F) m ρ).payload g r d) := by
  show BI.Storable upEmb (match decode g.2 with | some i => pay m ρ g.1.1 i d | none => iprop(emp))
  split <;> infer_instance

section Sched
variable (c : Dev nD) (i : Cix)

/-- The duties of a cell's first round. -/
theorem rd_duties : (rd (F := F) m ρ).duties (cell c i) 0 = duties i := by
  dsimp only [rd, cell]; rw [if_pos ⟨rfl, rfl⟩, decode_csem]
/-- No cell has a second round. -/
theorem rd_later (g : GSem nD τ sig) : ∀ r, 1 ≤ r → (rd (F := F) m ρ).duties g r = ∅ :=
  fun r hr => by dsimp only [rd]; rw [if_neg fun h => by omega]
/-- What a duty is worth. -/
theorem rd_amount (d : Bool) : (rd (F := F) m ρ).amount (cell c i) 0 d = units i := by
  dsimp only [rd, cell]; rw [decode_csem]
/-- What a duty hands over. -/
theorem rd_payload (d : Bool) : (rd (F := F) m ρ).payload (cell c i) 0 d = pay m ρ c i d := by
  dsimp only [rd, cell]; rw [decode_csem]
/-- What a cell's wait takes. -/
theorem rd_expect : (rd (F := F) m ρ).expect (cell c i) 0 = (duties i).card * units i := by
  unfold Schedule.expect Schedule.amountOf
  rw [rd_duties, Finset.sum_congr rfl fun d _ => rd_amount m ρ c i d, Finset.sum_const, smul_eq_mul]
/-- What a cell's wait gets, of a round of which nothing was taken yet. -/
theorem rd_rest : bigSep ((rd (F := F) m ρ).duties (cell c i) 0 \ ∅) (fun d => (rd (F := F) m ρ).payload (cell c i) 0 d)
    = bigSep (duties i) fun d => pay m ρ c i d := by
  rw [Finset.sdiff_empty, rd_duties]; exact bigSep_congr fun d _ => rd_payload m ρ c i d

end Sched

/-! ## What a device owes, and the levels -/

/-- The transfers in program order. -/
def order : List Slot := [(true, 0, 0), (false, 0, 0), (true, 0, 1), (false, 0, 1), (true, 1, 0), (false, 1, 0), (true, 1, 1), (false, 1, 1),
  (true, 2, 0), (false, 2, 0), (true, 2, 1), (false, 2, 1)]

/-- Everything a device credits to others, in program order: the entry signals, the transfers, the exit signals; each a
    direction and a cell of the device there. -/
def dues : List (Bool × Cix) :=
  [(false, .inl false), (true, .inl false)] ++ order.map (fun k => (k.1, .inr (true, k))) ++ [(false, .inl true), (true, .inl true)]

/-- What device `c` owes when the credits `l` remain. -/
def oweOf (c : Dev nD) : List (Bool × Cix) → CellTallies nD τ sig Unit
  | [] => 0
  | p :: l => oweOf c l + tallyAt (cell (dst p.1 c) p.2) () (units p.2)
/-- What it owes once `n` of its credits are given. -/
def owed (c : Dev nD) (n : ℕ) : CellTallies nD τ sig Unit := oweOf c (dues.drop n)

/-- The level of a cell: the entry handshake, then the hops, then the exit handshake; staging and send cells below all. -/
def rank : Option Cix → ℕ
  | some (.inl false) => 1
  | some (.inl true) => 5
  | some (.inr (true, k)) => 2 + k.2.1.val
  | _ => 0
def L (g : GSem nD τ sig) : Finset Unit := if g.1.2 = .tc then {()} else ∅
def lv (g : GSem nD τ sig) (_ : Unit) : ℕ := rank (decode g.2)

/-- Only the main threads have levels. -/
theorem L_of_ne (g : GSem nD τ sig) (h : g.1.2 ≠ .tc) : L g = ∅ := if_neg h
/-- A main thread's cells have one level each, -/
theorem L_tc (c : Dev nD) (sm : SemLoc sig) : L ((c : Thread nD τ), sm) = {()} := if_pos rfl
/-- which is the cell's rank. -/
theorem lv_cell (c : Dev nD) (i : Cix) (u : Unit) : lv (cell c i) u = rank (some i) := by unfold lv; rw [decode_csem]

/-- Who owes something to a cell has it in the list of dues. -/
theorem oweOf_pos {c : Dev nD} {g : GSem nD τ sig} {u : Unit} : ∀ {l : List (Bool × Cix)}, 0 < oweOf c l g u →
    ∃ p ∈ l, g = cell (dst p.1 c) p.2
  | [], h => absurd h (Nat.lt_irrefl 0)
  | p :: l, h => by
    rw [oweOf, Pi.add_apply, Finsupp.add_apply, tallyAt_apply] at h
    by_cases hg : g = cell (dst p.1 c) p.2 ∧ u = ()
    · exact ⟨p, List.mem_cons_self, hg.1⟩
    · rw [if_neg hg, Nat.add_zero] at h
      obtain ⟨p', hp', h'⟩ := oweOf_pos h
      exact ⟨p', List.mem_cons_of_mem _ hp', h'⟩

omit [FloatOps F] in
/-- A device may wait on a cell that stands below everything it still owes. -/
theorem mayWait_of (c : Dev nD) (sm : SemLoc sig) (l : List (Bool × Cix)) (n : ℕ) (hsm : rank (decode sm) ≤ n) (h : ∀ p ∈ l, n < rank (some p.2)) :
    (levAts L lv : sProp 𝕄) ⊢ MayWait (c : Thread nD τ) sm () (oweOf c l) :=
  MayOwe.of_cut (L := L) (lev := lv) n (fun p hp => by rw [Finset.mem_singleton.mp hp, L_tc]; exact Finset.mem_singleton_self _)
    (fun g u hg => by obtain ⟨p, -, rfl⟩ := oweOf_pos hg; rw [L_tc]; exact Finset.mem_singleton_self _)
    (fun p hp => by rw [Finset.mem_singleton.mp hp]; exact hsm)
    (fun g u hg => by obtain ⟨p, hp, rfl⟩ := oweOf_pos hg; rw [lv_cell]; exact h p hp)

end Cert.KernelIdealProof

end
-- ==== Proof.KernelIdealSteps.lean ====
/-
One rule per kind of step of the protocol: a handshake signal, a transfer, a wait.

Every rule says what the device gives and what it has afterwards, for any slot and any point of the program;
the walk through the program applies them in order.
-/
module

public import proofs.«01_k».proof.Proof.KernelIdealProto
public import Idealize.ShloMosaic.Lib.ViewIndex

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- What is known for good: every cell's invariant, under the names `K`, and that every cell has reached its round. -/
def records (K : Dev nD × Cix → ℕ) : sProp 𝕄 :=
  iprop((bigSep Finset.univ fun ck : Dev nD × Cix => cellInv ER (rd m ρ) (K ck) (cell ck.1 ck.2))
    ∗ bigSep Finset.univ fun ck : Dev nD × Cix => reached ER (cell ck.1 ck.2) 0)

instance records_persistent (K : Dev nD × Cix → ℕ) : BI.Persistent (records m ρ K) := by unfold records; infer_instance

/-- The record of one cell, out of all. -/
theorem records_at (K : Dev nD × Cix → ℕ) (c : Dev nD) (i : Cix) :
    records m ρ K ⊢ iprop(cellInv ER (rd m ρ) (K (c, i)) (cell c i) ∗ reached ER (cell c i) 0) := by
  unfold records
  exact BI.sep_mono (bigSep_elim (Finset.mem_univ (c, i))) (bigSep_elim (Finset.mem_univ (c, i)))

/-- What device `c` owes after `n` of its credits, whatever it has waited on. -/
def Owes (c : Dev nD) (n : ℕ) : sProp 𝕄 := iprop(∃ W, owes (c : Thread nD τ) (owed c n) W)

variable (K : Dev nD × Cix → ℕ) (c : Dev nD)
variable {α : Type} {Q : α → sProp (MT nD τ sig Unit (Elt F) ℕ UU ℕ)}

/-- What is owed before a due is that due and what is owed after it. -/
theorem owed_step {n : ℕ} {p : Bool × Cix} (h : dues.drop n = p :: dues.drop (n + 1)) :
    owed c n = owed c (n + 1) + tallyAt (cell (dst p.1 c) p.2) () (units p.2) := by
  unfold owed; rw [h, oweOf]

/-- A handshake signal in direction `d`: its token and what it hands over go, one credit is given. -/
theorem step_signal (n : ℕ) (d b : Bool) (hn : dues.drop n = (d, .inl b) :: dues.drop (n + 1)) {e : Dev nD} (he : e = dst d c)
    {sem : Sem sig} (hsem : SemLoc.reg sem = csem (.inl b)) {a : ℕ} (ha : a = 1)
    {k : PUnit → Prog (TpuEff nD τ sig (Elt F) Λ₀ .tc) α} :
    iprop(records m ρ K ∗ Owes c n ∗ dutyTok ER (cell (dst d c) (.inl b)) 0 (!d) ∗ pay m ρ (dst d c) (.inl b) (!d))
      ⊢ iprop((Owes c (n + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.semSignal (Dev.tc e : Thread nD τ) sem a) k) Q) := by
  subst he
  have hcell : (((dst d c : Dev nD) : Thread nD τ), SemLoc.reg sem) = cell (dst d c) (.inl b) := by rw [hsem]
  have hkey (W : Waits sig Unit) := Rounds.wp_signal (defs := defs₀ (F := F)) (Γ := .empty) (Q := Q) 𝒱₀ ER (rd m ρ) (c : Thread nD τ) none
    (dst := ((dst d c : Dev nD) : Thread nD τ)) (sem := sem) (r := 0) (d := !d) (k' := a) (k := k)
    (κ := K (dst d c, .inl b)) (Es := Set.univ) (W := W) (by rw [hcell, rd_duties]; exact Finset.mem_univ _)
    (by rw [hcell, rd_amount, ha]; rfl) () (O₀ := owed c n) (owed c (n + 1)) (by rw [hcell, owed_step c hn, ha]; rfl)
  simp only [hcell, rd_payload] at hkey
  unfold Owes
  iintro ⟨#HR, ⟨%W, HO⟩, Htok, Hpay⟩ Hk
  ihave HI := (records_at m ρ K (dst d c) (.inl b)) $$ HR
  icases HI with ⟨#HI, #HV⟩
  iapply (hkey W) $$ [HO Htok Hpay]
  · isplitr; · iexact HI
    isplitl [HO]; · iexact HO
    isplitl [Htok]; · iexact Htok
    isplitl [Hpay]; · iexact Hpay
    iexact HV
  iintro HO
  iapply Hk
  iexists W; iexact HO

/-- A wait for all of a cell's round: what its duties hand over comes, and the cell, closed, at zero. -/
theorem step_wait (n : ℕ) (i : Cix) (hlev : ∀ p ∈ dues.drop n, rank (some i) < rank (some p.2))
    {w : TpuEff nD τ sig (Elt F) Λ₀ .tc PUnit} {a : ℕ}
    (hw : ∀ Kt : PUnit → sProp 𝕄, wpE (defs₀ (F := F)) 𝒱₀ (c : Thread nD τ) none Set.univ w Kt = waitSpec (c : Thread nD τ) Set.univ (csem i) a Kt)
    (ha : a = (duties i).card * units i) {k : PUnit → Prog (TpuEff nD τ sig (Elt F) Λ₀ .tc) α} :
    iprop(records m ρ K ∗ levAts L lv ∗ Owes c n ∗ cred (tallyAt (cell c i) () a) ∗ atPos ER (cell c i) 0 ∅ 0)
      ⊢ iprop(((Owes c n ∗ (bigSep (duties i) fun d => pay m ρ c i d) ∗ semVal (cell c i) 0)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold Owes
  iintro ⟨#HR, #Hlev, ⟨%W, HO⟩, Hcr, Hat⟩ Hk
  ihave HI := (records_at m ρ K c i) $$ HR
  icases HI with ⟨#HI, #HV⟩
  iapply (Rounds.wp_wait_rest_token (defs := defs₀ (F := F)) 𝒱₀ ER (rd m ρ) (c : Thread nD τ) none (κ := K (c, i)) hw (Set.mem_univ _) ()
      (O := owed c n) (W := W) (R := 0) (m := 0) (T := ∅) (by rw [Nat.zero_add, ha]; exact (rd_expect m ρ c i).symm)) $$ [Hcr HO Hat]
  · isplitr; · iexact HI
    isplitl [Hcr]; · iexact Hcr
    isplitl [HO]; · iexact HO
    isplitr
    · iapply (mayWait_of c (csem i) (dues.drop n) (rank (some i)) (by rw [decode_csem]) hlev); iexact Hlev
    iexact Hat
  iintro ⟨HO, Hat, -, Hpay⟩
  ihave Hp := (Entails.of_eq (rd_rest m ρ c i)) $$ Hpay
  imod (Rounds.cell_close ER (rd m ρ) (Set.mem_univ (K (c, i))) (fun h => h) (R := 0 + 1) (rd_later m ρ (cell c i))) $$ [Hat] with Hz
  · isplitr; · iexact HI
    iexact Hat
  iapply Hk
  isplitl [HO]; · iexists _; iexact HO
  isplitl [Hp]; · iexact Hp
  iexact Hz

/-- The squeezed views of a source and a landing slot: what a transfer names. -/
abbrev sQ (k : Slot) : Memref sig .tc .vmem S512x512 .bf16 := (sM k).squeeze S512x512 squeezes_S1x1x512x512_S512x512
abbrev lQ (k : Slot) : Memref sig .tc .vmem S512x512 .bf16 := (lM k).squeeze S512x512 squeezes_S1x1x512x512_S512x512

/-- A transfer is credited the same amount at its landing slot -/
theorem credit_land (k : Slot) : (lQ k).view.dmaCredit = N := by rcases k with ⟨_ | _, s, q⟩ <;> rfl
/-- and at its source slot. -/
theorem credit_src (k : Slot) : (sQ k).view.dmaCredit = N := by rcases k with ⟨_ | _, s, q⟩ <;> rfl

omit [FloatOps F] in
/-- What lands in a slot reads as what the source slot read. -/
theorem read_landed (k : Slot) (fd : (lM k).view.ty.Contents (Elt F)) (fs : (sM k).view.ty.Contents (Elt F)) :
    (lM k).view.read (Elt F) ((lQ k).view.write (Elt F) fd ((sQ k).view.read (Elt F) fs) Finset.univ) = (sM k).view.read (Elt F) fs := by
  funext x
  obtain ⟨y, rfl⟩ := (Shape.reshapeEquiv squeezes_S1x1x512x512_S512x512.numel_eq).surjective x
  exact View.read_write_reshape (lM k).view squeezes_S1x1x512x512_S512x512.numel_eq fd _ y

/-- A transfer of slot `k`: the source slot, the landing slot there and both duties go; its own send credit comes. -/
theorem step_start (n : ℕ) (k : Slot) (hn : dues.drop n = (k.1, .inr (true, k)) :: dues.drop (n + 1)) {e : Dev nD} (he : e = dst k.1 c)
    {hsc : (lQ k : Memref sig (Dev.tc e : Thread nD τ).2.kind .vmem S512x512 .bf16).view.ref.isScScratch = false}
    {hsrc : (sQ k).view.WordExact} {hdst : (lQ k).view.WordExact}
    {hsem : DmaTarget.Typed .vmem (.dma (rSem k)) (.remote (Dev.tc e : Thread nD τ) (lQ k) (.dma (sSem k)) hsc)}
    {kk : PUnit → Prog (TpuEff nD τ sig (Elt F) Λ₀ .tc) α} :
    iprop(records m ρ K ∗ Owes c n ∗ dutyTok ER (cell c (.inr (false, k))) 0 false ∗ dutyTok ER (cell (dst k.1 c) (.inr (true, k))) 0 false
        ∗ srcAt c k (sent m ρ k c) ∗ landAny (dst k.1 c) k)
      ⊢ iprop(((Owes c (n + 1) ∗ cred (tallyAt (cell c (.inr (false, k))) () N))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (sQ k) (.remote (Dev.tc e : Thread nD τ) (lQ k) (.dma (sSem k)) hsc) (.dma (rSem k)) hsrc hdst hsem) kk) Q) := by
  subst he
  unfold Owes landAny
  iintro ⟨#HR, ⟨%W, HO⟩, Htk, Htr, Hs, ⟨%X, Hl⟩⟩ Hk
  ihave HI := (records_at m ρ K c (.inr (false, k))) $$ HR
  icases HI with ⟨#HIs, #HVs⟩
  ihave HI := (records_at m ρ K (dst k.1 c) (.inr (true, k))) $$ HR
  icases HI with ⟨#HIr, #HVr⟩
  unfold srcAt landAt owns
  icases Hs with ⟨%fs, %hfs, Hs⟩
  icases Hl with ⟨%fd, -, Hl⟩
  have hss : (sQ k).view.set = (sM k).view.set := View.set_reshape _ _
  have hls : (lQ k).view.set = (lM k).view.set := View.set_reshape _ _
  iapply (Rounds.wp_send_pointsTo (defs := defs₀ (F := F)) 𝒱₀ ER (rd m ρ) (c : Thread nD τ) none (c' := ((dst k.1 c : Dev nD) : Thread nD τ))
      (src := sQ k) (dst := lQ k) (sS := .dma (sSem k)) (sem := .dma (rSem k)) (κ₁ := K (c, .inr (false, k))) (κ₂ := K (dst k.1 c, .inr (true, k)))
      (r₁ := 0) (r₂ := 0) (d₁ := false) (d₂ := false) (q := fullShare) (fs := fs) (fd := fd) (W := W)
      (by rw [show ((c : Thread nD τ), SemLoc.dma (sSem k)) = cell c (.inr (false, k)) from rfl, rd_duties]; exact Finset.mem_singleton_self _)
      (by rw [show (((dst k.1 c : Dev nD) : Thread nD τ), SemLoc.dma (rSem k)) = cell (dst k.1 c) (.inr (true, k)) from rfl, rd_duties]; exact Finset.mem_singleton_self _)
      () () N (credit_land k) (rd_amount m ρ c (.inr (false, k)) false) (rd_amount m ρ (dst k.1 c) (.inr (true, k)) false)
      (O₀ := owed c n) (owed c (n + 1)) (owed_step c hn)
      (by
        rw [show ((c : Thread nD τ), SemLoc.dma (sSem k)) = cell c (.inr (false, k)) from rfl, rd_payload]
        rw [show pay m ρ c (.inr (false, k)) false = srcAny c k from rfl]
        unfold srcAny srcAt owns
        rw [hss]
        iintro H; iexists _, fs
        isplitr; · ipureintro; rfl
        iexact H)
      (by
        rw [show (((dst k.1 c : Dev nD) : Thread nD τ), SemLoc.dma (rSem k)) = cell (dst k.1 c) (.inr (true, k)) from rfl, rd_payload]
        rw [show pay m ρ (dst k.1 c) (.inr (true, k)) false = landAt (dst k.1 c) k (sent m ρ k (dst (!k.1) (dst k.1 c))) from rfl, dst_dst']
        unfold landAt owns
        rw [hls]
        iintro H; iexists _
        isplitr; · ipureintro; exact (read_landed k fd fs).trans hfs
        iexact H)) $$ [HO Htk Htr Hs Hl]
  · isplitr; · iexact HIs
    isplitr; · iexact HIr
    isplitl [Hs]; · rw [hss]; iexact Hs
    isplitl [Hl]; · rw [hls]; iexact Hl
    isplitl [HO]; · iexact HO
    isplitl [Htk]; · iexact Htk
    isplitr; · iexact HVs
    isplitl [Htr]; · iexact Htr
    iexact HVr
  iintro ⟨Hc, HO⟩
  iapply Hk
  isplitl [HO]; · iexists W; iexact HO
  iexact Hc

/-- The wait for a landing: the landing slot comes with what the device before sent. -/
theorem step_recv (n : ℕ) (k : Slot) (hlev : ∀ p ∈ dues.drop n, rank (some (.inr (true, k))) < rank (some p.2))
    {src : Memref sig .tc .vmem S512x512 .bf16} {hsrc : src.view.WordExact} {hdst : (lQ k).view.WordExact}
    {kk : PUnit → Prog (TpuEff nD τ sig (Elt F) Λ₀ .tc) α} :
    iprop(records m ρ K ∗ levAts L lv ∗ Owes c n ∗ cred (tallyAt (cell c (.inr (true, k))) () N) ∗ atPos ER (cell c (.inr (true, k))) 0 ∅ 0)
      ⊢ iprop(((Owes c n ∗ landAt c k (sent m ρ k (dst (!k.1) c)) ∗ semVal (cell c (.inr (true, k))) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (rSem k) src (lQ k) hsrc hdst) kk) Q) := by
  have h := step_wait (Q := Q) m ρ K c n (.inr (true, k)) hlev (w := .waitDma2 (rSem k) src (lQ k) hsrc hdst) (k := kk) (a := N)
    (fun Kt => (wpE_waitDma2_eq 𝒱₀ (c : Thread nD τ) none Set.univ Kt).trans (by rw [credit_land k]; rfl)) (by rw [duties, Finset.card_singleton, Nat.one_mul]; rfl)
  rw [duties, bigSep_singleton] at h
  exact h

/-- The wait for an own transfer to be read out: the source slot comes back. -/
theorem step_back (n : ℕ) (k : Slot) (hlev : ∀ p ∈ dues.drop n, rank (some (.inr (false, k))) < rank (some p.2))
    {src : Memref sig .tc .vmem S512x512 .bf16} {hsrc : src.view.WordExact} {hdst : (sQ k).view.WordExact}
    {kk : PUnit → Prog (TpuEff nD τ sig (Elt F) Λ₀ .tc) α} :
    iprop(records m ρ K ∗ levAts L lv ∗ Owes c n ∗ cred (tallyAt (cell c (.inr (false, k))) () N) ∗ atPos ER (cell c (.inr (false, k))) 0 ∅ 0)
      ⊢ iprop(((Owes c n ∗ srcAny c k ∗ semVal (cell c (.inr (false, k))) 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sSem k) src (sQ k) hsrc hdst) kk) Q) := by
  have h := step_wait (Q := Q) m ρ K c n (.inr (false, k)) hlev (w := .waitDma2 (sSem k) src (sQ k) hsrc hdst) (k := kk) (a := N)
    (fun Kt => (wpE_waitDma2_eq 𝒱₀ (c : Thread nD τ) none Set.univ Kt).trans (by rw [credit_src k]; rfl)) (by rw [duties, Finset.card_singleton, Nat.one_mul]; rfl)
  rw [duties, bigSep_singleton] at h
  exact h

end Cert.KernelIdealProof

end
-- ==== Proof.KernelIdealParts.lean ====
/-
The walk through the program, part by part.

The printed program is split into parts; each theorem says what a part takes and what it leaves, on a symbolic
device `c`, with the contents of every buffer piece. What a device holds for a transfer is bundled by how far
the transfer is: still to do, on its way out, given back, awaited, arrived.
-/
module

public import proofs.«01_k».proof.Proof.KernelIdealSteps

@[expose] public section

noncomputable section

namespace Cert.KernelIdealProof

open Cert.KernelIdeal Cert.KernelIdeal.Gen Cert.Owned
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What a device holds -/

/-- The staged operands; the product of the own rows; a quarter of the result; each at known contents or at any. -/
abbrev xAt (c : Dev nD) : sProp 𝕄 := owns (c : Thread nD τ) xM fullShare (xstg m ρ c)
abbrev wAt (c : Dev nD) : sProp 𝕄 := owns (c : Thread nD τ) wM fullShare (wstg m ρ c)
abbrev ownAt (c : Dev nD) (X : S512x2048.Idx → Elt F .f32) : sProp 𝕄 := owns (c : Thread nD τ) ownM fullShare X
def ownAny (c : Dev nD) : sProp 𝕄 := iprop(∃ X, ownAt c X)
abbrev outAt (c : Dev nD) (j : Fin 4) (X : S512x512.Idx → Elt F .f32) : sProp 𝕄 :=
  owns (c : Thread nD τ) (oM.slice (colRect j) (fun _ => rfl)) fullShare X
def outAny (c : Dev nD) (j : Fin 4) : sProp 𝕄 := iprop(∃ X, outAt c j X)

/-- A transfer still to do: both its duties, the landing slot at the other end, its send cell. -/
def Todo (c : Dev nD) (k : Slot) : sProp 𝕄 :=
  iprop(dutyTok ER (cell c (.inr (false, k))) 0 false ∗ dutyTok ER (cell (dst k.1 c) (.inr (true, k))) 0 false ∗ landAny (dst k.1 c) k
    ∗ atPos ER (cell c (.inr (false, k))) 0 ∅ 0)
/-- A transfer on its way out, and one whose source slot is back. -/
def Flying (c : Dev nD) (k : Slot) : sProp 𝕄 :=
  iprop(cred (tallyAt (cell c (.inr (false, k))) () N) ∗ atPos ER (cell c (.inr (false, k))) 0 ∅ 0)
def Done (c : Dev nD) (k : Slot) : sProp 𝕄 := iprop(srcAny c k ∗ semVal (cell c (.inr (false, k))) 0)
/-- A landing awaited, and one that arrived. -/
def Await (c : Dev nD) (k : Slot) : sProp 𝕄 :=
  iprop(cred (tallyAt (cell c (.inr (true, k))) () N) ∗ atPos ER (cell c (.inr (true, k))) 0 ∅ 0)
def Arrived (c : Dev nD) (k : Slot) : sProp 𝕄 :=
  iprop(landAt c k (sent m ρ k (dst (!k.1) c)) ∗ semVal (cell c (.inr (true, k))) 0)

/-! ## The steps, on the bundles -/

variable (K : Dev nD × Cix → ℕ) (c : Dev nD)
variable {α : Type} {Q : α → sProp (MT nD τ sig Unit (Elt F) ℕ UU ℕ)}

/-- Starting a transfer whose source slot holds what is to be sent. -/
theorem go_start (n : ℕ) (k : Slot) (hn : dues.drop n = (k.1, .inr (true, k)) :: dues.drop (n + 1)) {e : Dev nD} (he : e = dst k.1 c)
    {hsc : (lQ k : Memref sig (Dev.tc e : Thread nD τ).2.kind .vmem S512x512 .bf16).view.ref.isScScratch = false}
    {hsrc : (sQ k).view.WordExact} {hdst : (lQ k).view.WordExact}
    {hsem : DmaTarget.Typed .vmem (.dma (rSem k)) (.remote (Dev.tc e : Thread nD τ) (lQ k) (.dma (sSem k)) hsc)}
    {kk : PUnit → Prog (TpuEff nD τ sig (Elt F) Λ₀ .tc) α} :
    iprop(records m ρ K ∗ Owes c n ∗ Todo c k ∗ srcAt c k (sent m ρ k c))
      ⊢ iprop(((Owes c (n + 1) ∗ Flying c k)
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (sQ k) (.remote (Dev.tc e : Thread nD τ) (lQ k) (.dma (sSem k)) hsc) (.dma (rSem k)) hsrc hdst hsem) kk) Q) := by
  unfold Todo Flying
  iintro ⟨#HR, HO, ⟨Ht, Ht', Hl, Ha⟩, Hs⟩ Hk
  iapply (step_start m ρ K c n k hn he) $$ [HO Ht Ht' Hl Hs]
  · isplitr; · iexact HR
    isplitl [HO]; · iexact HO
    isplitl [Ht]; · iexact Ht
    isplitl [Ht']; · iexact Ht'
    isplitl [Hs]; · iexact Hs
    iexact Hl
  iintro ⟨HO, Hc⟩
  iapply Hk
  isplitl [HO]; · iexact HO
  isplitl [Hc]; · iexact Hc
  iexact Ha

/-- Waiting for a landing. -/
theorem go_recv (n : ℕ) (k : Slot) (hlev : ∀ p ∈ dues.drop n, rank (some (.inr (true, k))) < rank (some p.2))
    {src : Memref sig .tc .vmem S512x512 .bf16} {hsrc : src.view.WordExact} {hdst : (lQ k).view.WordExact}
    {kk : PUnit → Prog (TpuEff nD τ sig (Elt F) Λ₀ .tc) α} :
    iprop(records m ρ K ∗ levAts L lv ∗ Owes c n ∗ Await c k)
      ⊢ iprop(((Owes c n ∗ Arrived m ρ c k) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (rSem k) src (lQ k) hsrc hdst) kk) Q) :=
  step_recv m ρ K c n k hlev

/-- Waiting for a source slot. -/
theorem go_back (n : ℕ) (k : Slot) (hlev : ∀ p ∈ dues.drop n, rank (some (.inr (false, k))) < rank (some p.2))
    {src : Memref sig .tc .vmem S512x512 .bf16} {hsrc : src.view.WordExact} {hdst : (sQ k).view.WordExact}
    {kk : PUnit → Prog (TpuEff nD τ sig (Elt F) Λ₀ .tc) α} :
    iprop(records m ρ K ∗ levAts L lv ∗ Owes c n ∗ Flying c k)
      ⊢ iprop(((Owes c n ∗ Done c k) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sSem k) src (sQ k) hsrc hdst) kk) Q) :=
  step_back m ρ K c n k hlev

omit m ρ [FloatOps F] in
/-- The rectangle of all of a buffer of rank two. -/
theorem full_id {h : ∀ a : Fin 2, (![0, 0] : Fin 2 → ℕ) a + S512x2048.size a ≤ S512x2048.size a} (j : S512x2048.Idx) :
    (Rect.unit (s := S512x2048) ![0, 0] S512x2048.size h).emb j = j := by
  funext a; apply Fin.ext
  show (![0, 0] : Fin 2 → ℕ) a + 1 * (j a).val = (j a).val
  fin_cases a <;> simp

/-! ## The parts -/

/-- Part 2 of the program. -/
theorem part2_walk (v2 : BitVec 32) (v25 : BitVec 32) {Q : _ → sProp (MT nD τ sig Unit (Elt F) ℕ UU ℕ)} :
    iprop(xAt m ρ c ∗ wAt m ρ c ∗ srcAny c (true, 0, 0))
      ⊢ iprop(((xAt m ρ c ∗ wAt m ρ c ∗ srcAt c (true, 0, 0) (sent m ρ (true, 0, 0) c)) -∗ Q ⟨⟩)
        -∗ wp frame (wpE (defs₀ (F := F)) 𝒱₀ (c : Thread nD τ) none) Set.univ (k0_part2 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v2 v25) Q) := by
  rw [k0_part2_eq_skeleton]; unfold k0_part2_skel
  simp only [Prog.lift, Prog.bind_op, Prog.bind_ret, Prog.pure_eq_ret]
  unfold srcAny
  iintro ⟨HX, HW, ⟨%XHSt00, HSt00⟩⟩ Hk
  iapply (load_whole 𝒱₀ (c : Thread nD τ) none Set.univ (m := xM)) $$ HX; iintro HX
  iapply (load_whole 𝒱₀ (c : Thread nD τ) none Set.univ (m := wM)) $$ HW; iintro HW
  iapply (load_slice 𝒱₀ (c : Thread nD τ) none Set.univ (m := sAll true)) $$ HSt00; iintro HSt00
  iapply (store_slice 𝒱₀ (c : Thread nD τ) none Set.univ (m := sAll true)) $$ HSt00; iintro HSt00
  rw [wp_ret]; imodintro
  iapply Hk
  isplitl [HX]; · iexact HX
  isplitl [HW]; · iexact HW
  iexact HSt00

/-- Part 3 of the program. -/
theorem part3_walk (v2 : BitVec 32) (v14 : BitVec 32) {Q : _ → sProp (MT nD τ sig Unit (Elt F) ℕ UU ℕ)} :
    iprop(records m ρ K ∗ Owes c 2 ∗ Todo c (true, 0, 0) ∗ srcAt c (true, 0, 0) (sent m ρ (true, 0, 0) c) ∗ xAt m ρ c ∗ wAt m ρ c ∗ srcAny c (false, 0, 0))
      ⊢ iprop((∀ r, (Owes c 3 ∗ Flying c (true, 0, 0) ∗ xAt m ρ c ∗ wAt m ρ c ∗ srcAt c (false, 0, 0) (sent m ρ (false, 0, 0) c)) -∗ Q r)
        -∗ wp frame (wpE (defs₀ (F := F)) 𝒱₀ (c : Thread nD τ) none) Set.univ (k0_part3 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v2 v14) Q) := by
  rw [k0_part3_eq_skeleton]; unfold k0_part3_skel
  simp only [Prog.lift, Prog.bind_op, Prog.bind_ret, Prog.pure_eq_ret]
  unfold srcAny
  iintro ⟨#HR, HO, HTt00, HSt00, HX, HW, ⟨%XHSf00, HSf00⟩⟩ Hk
  iapply (go_start m ρ K c 2 (true, 0, 0) rfl (dev3_eq c)) $$ [HO HTt00 HSt00]
  · isplitr; · iexact HR
    isplitl [HO]; · iexact HO
    isplitl [HTt00]; · iexact HTt00
    iexact HSt00
  iintro ⟨HO, HFt00⟩
  iapply (load_whole 𝒱₀ (c : Thread nD τ) none Set.univ (m := xM)) $$ HX; iintro HX
  iapply (load_whole 𝒱₀ (c : Thread nD τ) none Set.univ (m := wM)) $$ HW; iintro HW
  iapply (load_slice 𝒱₀ (c : Thread nD τ) none Set.univ (m := sAll false)) $$ HSf00; iintro HSf00
  iapply (store_slice 𝒱₀ (c : Thread nD τ) none Set.univ (m := sAll false)) $$ HSf00; iintro HSf00
  rw [wp_ret]; imodintro
  iapply Hk $$ %_
  isplitl [HO]; · iexact HO
  isplitl [HFt00]; · iexact HFt00
  isplitl [HX]; · iexact HX
  isplitl [HW]; · iexact HW
  iexact HSf00

/-- Part 4 of the program. -/
theorem part4_walk (v2 : BitVec 32) (v88 : BitVec 32) (c0_i32_74 : BitVec 32) {Q : _ → sProp (MT nD τ sig Unit (Elt F) ℕ UU ℕ)} :
    iprop(records m ρ K ∗ Owes c 3 ∗ Todo c (false, 0, 0) ∗ srcAt c (false, 0, 0) (sent m ρ (false, 0, 0) c) ∗ xAt m ρ c ∗ wAt m ρ c ∗ srcAny c (true, 0, 1))
      ⊢ iprop(((Owes c 4 ∗ Flying c (false, 0, 0) ∗ xAt m ρ c ∗ wAt m ρ c ∗ srcAt c (true, 0, 1) (sent m ρ (true, 0, 1) c)) -∗ Q ⟨⟩)
        -∗ wp frame (wpE (defs₀ (F := F)) 𝒱₀ (c : Thread nD τ) none) Set.univ (k0_part4 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v2 v88 c0_i32_74) Q) := by
  rw [k0_part4_eq_skeleton]; unfold k0_part4_skel
  simp only [Prog.lift, Prog.bind_op, Prog.bind_ret, Prog.pure_eq_ret]
  unfold srcAny
  iintro ⟨#HR, HO, HTf00, HSf00, HX, HW, ⟨%XHSt01, HSt01⟩⟩ Hk
  iapply (go_start m ρ K c 3 (false, 0, 0) rfl (dev4_eq c)) $$ [HO HTf00 HSf00]
  · isplitr; · iexact HR
    isplitl [HO]; · iexact HO
    isplitl [HTf00]; · iexact HTf00
    iexact HSf00
  iintro ⟨HO, HFf00⟩
  iapply (load_whole 𝒱₀ (c : Thread nD τ) none Set.univ (m := xM)) $$ HX; iintro HX
  iapply (load_whole 𝒱₀ (c : Thread nD τ) none Set.univ (m := wM)) $$ HW; iintro HW
  iapply (load_slice 𝒱₀ (c : Thread nD τ) none Set.univ (m := sAll true)) $$ HSt01; iintro HSt01
  iapply (store_slice 𝒱₀ (c : Thread nD τ) none Set.univ (m := sAll true)) $$ HSt01; iintro HSt01
  rw [wp_ret]; imodintro
  iapply Hk
  isplitl [HO]; · iexact HO
  isplitl [HFf00]; · iexact HFf00
  isplitl [HX]; · iexact HX
  isplitl [HW]; · iexact HW
  iexact HSt01

/-- Part 5 of the program. -/
theorem part5_walk (v2 : BitVec 32) (v25 : BitVec 32) {Q : _ → sProp (MT nD τ sig Unit (Elt F) ℕ UU ℕ)} :
    iprop(records m ρ K ∗ Owes c 4 ∗ Todo c (true, 0, 1) ∗ srcAt c (true, 0, 1) (sent m ρ (true, 0, 1) c) ∗ xAt m ρ c ∗ wAt m ρ c ∗ srcAny c (false, 0, 1))
      ⊢ iprop((∀ r, (⌜r.1 = k0_pay4 (xRows m ρ false 0 c) (wCols m ρ 3 c)⌝ ∗ Owes c 5 ∗ Flying c (true, 0, 1) ∗ xAt m ρ c ∗ wAt m ρ c ∗ srcAny c (false, 0, 1)) -∗ Q r)
        -∗ wp frame (wpE (defs₀ (F := F)) 𝒱₀ (c : Thread nD τ) none) Set.univ (k0_part5 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v2 v25) Q) := by
  rw [k0_part5_eq_skeleton]; unfold k0_part5_skel
  simp only [Prog.lift, Prog.bind_op, Prog.bind_ret, Prog.pure_eq_ret]
  unfold srcAny
  iintro ⟨#HR, HO, HTt01, HSt01, HX, HW, ⟨%XHSf01, HSf01⟩⟩ Hk
  iapply (go_start m ρ K c 4 (true, 0, 1) rfl (dev5_eq c)) $$ [HO HTt01 HSt01]
  · isplitr; · iexact HR
    isplitl [HO]; · iexact HO
    isplitl [HTt01]; · iexact HTt01
    iexact HSt01
  iintro ⟨HO, HFt01⟩
  iapply (load_whole 𝒱₀ (c : Thread nD τ) none Set.univ (m := xM)) $$ HX; iintro HX
  iapply (load_whole 𝒱₀ (c : Thread nD τ) none Set.univ (m := wM)) $$ HW; iintro HW
  iapply (load_slice 𝒱₀ (c : Thread nD τ) none Set.univ (m := sAll false)) $$ HSf01; iintro HSf01
  rw [wp_ret]; imodintro
  iapply Hk $$ %_
  isplitr; · ipureintro; rfl
  isplitl [HO]; · iexact HO
  isplitl [HFt01]; · iexact HFt01
  isplitl [HX]; · iexact HX
  isplitl [HW]; · iexact HW
  iexists _; iexact HSf01

/-- Part 6 of the program. -/
theorem part6_walk (v2 : BitVec 32) (v14 : BitVec 32) (v152 : Vec F S1x1x512x512 .bf16) {Q : _ → sProp (MT nD τ sig Unit (Elt F) ℕ UU ℕ)} :
    iprop(records m ρ K ∗ srcAny c (false, 0, 1) ∗ Owes c 5 ∗ Todo c (false, 0, 1) ∗ xAt m ρ c ∗ wAt m ρ c)
      ⊢ iprop((∀ r, (⌜r = ⟨k0_pay6 (xRows m ρ true 1 c), k0_pay7 (wCols m ρ 0 c)⟩⌝ ∗ Owes c 6 ∗ Flying c (false, 0, 1) ∗ xAt m ρ c ∗ wAt m ρ c) -∗ Q r)
        -∗ wp frame (wpE (defs₀ (F := F)) 𝒱₀ (c : Thread nD τ) none) Set.univ (k0_part6 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v2 v14 (k0_pay4 (xRows m ρ false 0 c) (wCols m ρ 3 c)) v152) Q) := by
  rw [k0_part6_eq_skeleton]; unfold k0_part6_skel
  simp only [Prog.lift, Prog.bind_op, Prog.bind_ret, Prog.pure_eq_ret]
  unfold srcAny
  iintro ⟨#HR, ⟨%XHSf01, HSf01⟩, HO, HTf01, HX, HW⟩ Hk
  iapply (store_slice 𝒱₀ (c : Thread nD τ) none Set.univ (m := sAll false)) $$ HSf01; iintro HSf01
  iapply (go_start m ρ K c 5 (false, 0, 1) rfl (dev6_eq c)) $$ [HO HTf01 HSf01]
  · isplitr; · iexact HR
    isplitl [HO]; · iexact HO
    isplitl [HTf01]; · iexact HTf01
    iexact HSf01
  iintro ⟨HO, HFf01⟩
  iapply (load_whole 𝒱₀ (c : Thread nD τ) none Set.univ (m := xM)) $$ HX; iintro HX
  iapply (load_whole 𝒱₀ (c : Thread nD τ) none Set.univ (m := wM)) $$ HW; iintro HW
  rw [wp_ret]; imodintro
  iapply Hk $$ %_
  isplitr; · ipureintro; rfl
  isplitl [HO]; · iexact HO
  isplitl [HFf01]; · iexact HFf01
  isplitl [HX]; · iexact HX
  iexact HW

/-- Part 7 of the program. -/
theorem part7_walk (v2 : BitVec 32) {Q : _ → sProp (MT nD τ sig Unit (Elt F) ℕ UU ℕ)} :
    iprop(keptAny c (true, 0, 0) ∗ xAt m ρ c ∗ wAt m ρ c ∗ keptAny c (false, 0, 0))
      ⊢ iprop((∀ r, (keptAt c (true, 0, 0) (kept m ρ true 1 0 c) ∗ xAt m ρ c ∗ wAt m ρ c ∗ keptAt c (false, 0, 0) (kept m ρ false 1 0 c)) -∗ Q r)
        -∗ wp frame (wpE (defs₀ (F := F)) 𝒱₀ (c : Thread nD τ) none) Set.univ (k0_part7 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v2 (k0_pay6 (xRows m ρ true 1 c)) (k0_pay7 (wCols m ρ 0 c))) Q) := by
  rw [k0_part7_eq_skeleton]; unfold k0_part7_skel
  simp only [Prog.lift, Prog.bind_op, Prog.bind_ret, Prog.pure_eq_ret]
  unfold keptAny
  iintro ⟨⟨%XHPt00, HPt00⟩, HX, HW, ⟨%XHPf00, HPf00⟩⟩ Hk
  iapply (load_slice 𝒱₀ (c : Thread nD τ) none Set.univ (m := pAll true)) $$ HPt00; iintro HPt00
  iapply (store_slice 𝒱₀ (c : Thread nD τ) none Set.univ (m := pAll true)) $$ HPt00; iintro HPt00
  iapply (load_whole 𝒱₀ (c : Thread nD τ) none Set.univ (m := xM)) $$ HX; iintro HX
  iapply (load_whole 𝒱₀ (c : Thread nD τ) none Set.univ (m := wM)) $$ HW; iintro HW
  iapply (load_slice 𝒱₀ (c : Thread nD τ) none Set.univ (m := pAll false)) $$ HPf00; iintro HPf00
  iapply (store_slice 𝒱₀ (c : Thread nD τ) none Set.univ (m := pAll false)) $$ HPf00; iintro HPf00
  rw [wp_ret]; imodintro
  iapply Hk $$ %_
  isplitl [HPt00]; · iexact HPt00
  isplitl [HX]; · iexact HX
  isplitl [HW]; · iexact HW
  iexact HPf00

/-- Part 8 of the program. -/
theorem part8_walk (v2 : BitVec 32) (v212 : BitVec 32) (c4_i32_177 : BitVec 32) (v213 : BitVec 1) (c1_i32_179 : BitVec 32) {Q : _ → sProp (MT nD τ sig Unit (Elt F) ℕ UU ℕ)} :
    iprop(xAt m ρ c ∗ wAt m ρ c ∗ keptAny c (true, 0, 1))
      ⊢ iprop((∀ r, (⌜r = (k0_pay11 (xRows m ρ false 1 c))⌝ ∗ xAt m ρ c ∗ wAt m ρ c ∗ keptAt c (true, 0, 1) (kept m ρ true 1 1 c)) -∗ Q r)
        -∗ wp frame (wpE (defs₀ (F := F)) 𝒱₀ (c : Thread nD τ) none) Set.univ (k0_part8 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v2 v212 c4_i32_177 v213 c1_i32_179) Q) := by
  rw [k0_part8_eq_skeleton]; unfold k0_part8_skel
  simp only [Prog.lift, Prog.bind_op, Prog.bind_ret, Prog.pure_eq_ret]
  unfold keptAny
  iintro ⟨HX, HW, ⟨%XHPt01, HPt01⟩⟩ Hk
  iapply (load_whole 𝒱₀ (c : Thread nD τ) none Set.univ (m := xM)) $$ HX; iintro HX
  iapply (load_whole 𝒱₀ (c : Thread nD τ) none Set.univ (m := wM)) $$ HW; iintro HW
  iapply (load_slice 𝒱₀ (c : Thread nD τ) none Set.univ (m := pAll true)) $$ HPt01; iintro HPt01
  iapply (store_slice 𝒱₀ (c : Thread nD τ) none Set.univ (m := pAll true)) $$ HPt01; iintro HPt01
  iapply (load_whole 𝒱₀ (c : Thread nD τ) none Set.univ (m := xM)) $$ HX; iintro HX
  rw [wp_ret]; imodintro
  iapply Hk $$ %_
  isplitr; · ipureintro; rfl
  isplitl [HX]; · iexact HX
  isplitl [HW]; · iexact HW
  iexact HPt01

/-- Part 9 of the program. -/
theorem part9_walk (v2 : BitVec 32) {Q : _ → sProp (MT nD τ sig Unit (Elt F) ℕ UU ℕ)} :
    iprop(wAt m ρ c ∗ keptAny c (false, 0, 1) ∗ xAt m ρ c ∗ keptAny c (true, 1, 0))
      ⊢ iprop((∀ r, (wAt m ρ c ∗ keptAt c (false, 0, 1) (kept m ρ false 1 1 c) ∗ xAt m ρ c ∗ keptAt c (true, 1, 0) (kept m ρ true 2 0 c)) -∗ Q r)
        -∗ wp frame (wpE (defs₀ (F := F)) 𝒱₀ (c : Thread nD τ) none) Set.univ (k0_part9 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v2 (k0_pay11 (xRows m ρ false 1 c))) Q) := by
  rw [k0_part9_eq_skeleton]; unfold k0_part9_skel
  simp only [Prog.lift, Prog.bind_op, Prog.bind_ret, Prog.pure_eq_ret]
  unfold keptAny
  iintro ⟨HW, ⟨%XHPf01, HPf01⟩, HX, ⟨%XHPt10, HPt10⟩⟩ Hk
  iapply (load_whole 𝒱₀ (c : Thread nD τ) none Set.univ (m := wM)) $$ HW; iintro HW
  iapply (load_slice 𝒱₀ (c : Thread nD τ) none Set.univ (m := pAll false)) $$ HPf01; iintro HPf01
  iapply (store_slice 𝒱₀ (c : Thread nD τ) none Set.univ (m := pAll false)) $$ HPf01; iintro HPf01
  iapply (load_whole 𝒱₀ (c : Thread nD τ) none Set.univ (m := xM)) $$ HX; iintro HX
  iapply (load_whole 𝒱₀ (c : Thread nD τ) none Set.univ (m := wM)) $$ HW; iintro HW
  iapply (load_slice 𝒱₀ (c : Thread nD τ) none Set.univ (m := pAll true)) $$ HPt10; iintro HPt10
  iapply (store_slice 𝒱₀ (c : Thread nD τ) none Set.univ (m := pAll true)) $$ HPt10; iintro HPt10
  rw [wp_ret]; imodintro
  iapply Hk $$ %_
  isplitl [HW]; · iexact HW
  isplitl [HPf01]; · iexact HPf01
  isplitl [HX]; · iexact HX
  iexact HPt10

/-- Part 10 of the program. -/
theorem part10_walk (v2 : BitVec 32) (v279 : BitVec 32) (c4_i32_229 : BitVec 32) (c0_i32_230 : BitVec 32) {Q : _ → sProp (MT nD τ sig Unit (Elt F) ℕ UU ℕ)} :
    iprop(xAt m ρ c ∗ wAt m ρ c ∗ keptAny c (false, 1, 0))
      ⊢ iprop(((xAt m ρ c ∗ wAt m ρ c ∗ keptAt c (false, 1, 0) (kept m ρ false 2 0 c)) -∗ Q ⟨⟩)
        -∗ wp frame (wpE (defs₀ (F := F)) 𝒱₀ (c : Thread nD τ) none) Set.univ (k0_part10 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v2 v279 c4_i32_229 c0_i32_230) Q) := by
  rw [k0_part10_eq_skeleton]; unfold k0_part10_skel
  simp only [Prog.lift, Prog.bind_op, Prog.bind_ret, Prog.pure_eq_ret]
  unfold keptAny
  iintro ⟨HX, HW, ⟨%XHPf10, HPf10⟩⟩ Hk
  iapply (load_whole 𝒱₀ (c : Thread nD τ) none Set.univ (m := xM)) $$ HX; iintro HX
  iapply (load_whole 𝒱₀ (c : Thread nD τ) none Set.univ (m := wM)) $$ HW; iintro HW
  iapply (load_slice 𝒱₀ (c : Thread nD τ) none Set.univ (m := pAll false)) $$ HPf10; iintro HPf10
  iapply (store_slice 𝒱₀ (c : Thread nD τ) none Set.univ (m := pAll false)) $$ HPf10; iintro HPf10
  rw [wp_ret]; imodintro
  iapply Hk
  isplitl [HX]; · iexact HX
  isplitl [HW]; · iexact HW
  iexact HPf10

/-- Part 11 of the program. -/
theorem part11_walk (v2 : BitVec 32) {Q : _ → sProp (MT nD τ sig Unit (Elt F) ℕ UU ℕ)} :
    iprop(xAt m ρ c ∗ wAt m ρ c ∗ keptAny c (true, 1, 1) ∗ keptAny c (false, 1, 1))
      ⊢ iprop(((xAt m ρ c ∗ wAt m ρ c ∗ keptAt c (true, 1, 1) (kept m ρ true 2 1 c) ∗ keptAt c (false, 1, 1) (kept m ρ false 2 1 c)) -∗ Q ⟨⟩)
        -∗ wp frame (wpE (defs₀ (F := F)) 𝒱₀ (c : Thread nD τ) none) Set.univ (k0_part11 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v2) Q) := by
  rw [k0_part11_eq_skeleton]; unfold k0_part11_skel
  simp only [Prog.lift, Prog.bind_op, Prog.bind_ret, Prog.pure_eq_ret]
  unfold keptAny
  iintro ⟨HX, HW, ⟨%XHPt11, HPt11⟩, ⟨%XHPf11, HPf11⟩⟩ Hk
  iapply (load_whole 𝒱₀ (c : Thread nD τ) none Set.univ (m := xM)) $$ HX; iintro HX
  iapply (load_whole 𝒱₀ (c : Thread nD τ) none Set.univ (m := wM)) $$ HW; iintro HW
  iapply (load_slice 𝒱₀ (c : Thread nD τ) none Set.univ (m := pAll true)) $$ HPt11; iintro HPt11
  iapply (store_slice 𝒱₀ (c : Thread nD τ) none Set.univ (m := pAll true)) $$ HPt11; iintro HPt11
  iapply (load_whole 𝒱₀ (c : Thread nD τ) none Set.univ (m := xM)) $$ HX; iintro HX
  iapply (load_whole 𝒱₀ (c : Thread nD τ) none Set.univ (m := wM)) $$ HW; iintro HW
  iapply (load_slice 𝒱₀ (c : Thread nD τ) none Set.univ (m := pAll false)) $$ HPf11; iintro HPf11
  iapply (store_slice 𝒱₀ (c : Thread nD τ) none Set.univ (m := pAll false)) $$ HPf11; iintro HPf11
  rw [wp_ret]; imodintro
  iapply Hk
  isplitl [HX]; · iexact HX
  isplitl [HW]; · iexact HW
  isplitl [HPt11]; · iexact HPt11
  iexact HPf11

/-- Part 12 of the program. -/
theorem part12_walk (v25 : BitVec 32) {Q : _ → sProp (MT nD τ sig Unit (Elt F) ℕ UU ℕ)} :
    iprop(records m ρ K ∗ levAts L lv ∗ xAt m ρ c ∗ wAt m ρ c ∗ ownAny c ∗ Owes c 6 ∗ Await c (true, 0, 0) ∗ keptAt c (true, 0, 0) (kept m ρ true 1 0 c) ∗ srcAny c (true, 1, 0))
      ⊢ iprop(((xAt m ρ c ∗ wAt m ρ c ∗ ownAt c (own m ρ c) ∗ Owes c 6 ∗ Arrived m ρ c (true, 0, 0) ∗ keptAt c (true, 0, 0) (kept m ρ true 1 0 c) ∗ srcAt c (true, 1, 0) (sent m ρ (true, 1, 0) c)) -∗ Q ⟨⟩)
        -∗ wp frame (wpE (defs₀ (F := F)) 𝒱₀ (c : Thread nD τ) none) Set.univ (k0_part12 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v25) Q) := by
  rw [k0_part12_eq_skeleton]; unfold k0_part12_skel
  simp only [Prog.lift, Prog.bind_op, Prog.bind_ret, Prog.pure_eq_ret]
  unfold ownAny srcAny
  iintro ⟨#HR, #Hlev, HX, HW, ⟨%XHN, HN⟩, HO, HAt00, HPt00, ⟨%XHSt10, HSt10⟩⟩ Hk
  iapply (load_whole 𝒱₀ (c : Thread nD τ) none Set.univ (m := xM)) $$ HX; iintro HX
  iapply (load_whole 𝒱₀ (c : Thread nD τ) none Set.univ (m := wM)) $$ HW; iintro HW
  iapply (load_whole 𝒱₀ (c : Thread nD τ) none Set.univ (m := ownM)) $$ HN; iintro HN
  iapply (store_whole 𝒱₀ (c : Thread nD τ) none Set.univ (m := ownM) (g := fun j => j) full_id) $$ HN; iintro HN
  iapply (go_recv m ρ K c 6 (true, 0, 0) (by decide)) $$ [HO HAt00]
  · isplitr; · iexact HR
    isplitr; · iexact Hlev
    isplitl [HO]; · iexact HO
    iexact HAt00
  unfold Arrived; iintro ⟨HO, HLt00, HZt00⟩
  iapply (load_slice 𝒱₀ (c : Thread nD τ) none Set.univ (m := pAll true)) $$ HPt00; iintro HPt00
  iapply (load_slice 𝒱₀ (c : Thread nD τ) none Set.univ (m := lAll true)) $$ HLt00; iintro HLt00
  iapply (load_slice 𝒱₀ (c : Thread nD τ) none Set.univ (m := sAll true)) $$ HSt10; iintro HSt10
  iapply (store_slice 𝒱₀ (c : Thread nD τ) none Set.univ (m := sAll true)) $$ HSt10; iintro HSt10
  rw [wp_ret]; imodintro
  iapply Hk
  isplitl [HX]; · iexact HX
  isplitl [HW]; · iexact HW
  isplitl [HN]; · iexact HN
  isplitl [HO]; · iexact HO
  isplitl [HLt00 HZt00]
  · isplitl [HLt00]
    · iexact HLt00
    iexact HZt00
  isplitl [HPt00]; · iexact HPt00
  iexact HSt10

/-- Part 13 of the program. -/
theorem part13_walk (v14 : BitVec 32) (v25 : BitVec 32) {Q : _ → sProp (MT nD τ sig Unit (Elt F) ℕ UU ℕ)} :
    iprop(records m ρ K ∗ levAts L lv ∗ Owes c 6 ∗ Todo c (true, 1, 0) ∗ srcAt c (true, 1, 0) (sent m ρ (true, 1, 0) c) ∗ Await c (false, 0, 0) ∗ keptAt c (false, 0, 0) (kept m ρ false 1 0 c))
      ⊢ iprop((∀ r, (⌜r = ⟨k0_pay19 (kept m ρ false 1 0 c), k0_pay20 (sent m ρ (false, 0, 0) (dst (!false) c))⟩⌝ ∗ Owes c 7 ∗ Flying c (true, 1, 0) ∗ Arrived m ρ c (false, 0, 0) ∗ keptAt c (false, 0, 0) (kept m ρ false 1 0 c)) -∗ Q r)
        -∗ wp frame (wpE (defs₀ (F := F)) 𝒱₀ (c : Thread nD τ) none) Set.univ (k0_part13 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v14 v25) Q) := by
  rw [k0_part13_eq_skeleton]; unfold k0_part13_skel
  simp only [Prog.lift, Prog.bind_op, Prog.bind_ret, Prog.pure_eq_ret]
  iintro ⟨#HR, #Hlev, HO, HTt10, HSt10, HAf00, HPf00⟩ Hk
  iapply (go_start m ρ K c 6 (true, 1, 0) rfl (dev7_eq c)) $$ [HO HTt10 HSt10]
  · isplitr; · iexact HR
    isplitl [HO]; · iexact HO
    isplitl [HTt10]; · iexact HTt10
    iexact HSt10
  iintro ⟨HO, HFt10⟩
  iapply (go_recv m ρ K c 7 (false, 0, 0) (by decide)) $$ [HO HAf00]
  · isplitr; · iexact HR
    isplitr; · iexact Hlev
    isplitl [HO]; · iexact HO
    iexact HAf00
  unfold Arrived; iintro ⟨HO, HLf00, HZf00⟩
  iapply (load_slice 𝒱₀ (c : Thread nD τ) none Set.univ (m := pAll false)) $$ HPf00; iintro HPf00
  iapply (load_slice 𝒱₀ (c : Thread nD τ) none Set.univ (m := lAll false)) $$ HLf00; iintro HLf00
  rw [wp_ret]; imodintro
  iapply Hk $$ %_
  isplitr; · ipureintro; rfl
  isplitl [HO]; · iexact HO
  isplitl [HFt10]; · iexact HFt10
  isplitl [HLf00 HZf00]
  · isplitl [HLf00]
    · iexact HLf00
    iexact HZf00
  iexact HPf00

/-- Part 14 of the program. -/
theorem part14_walk (v14 : BitVec 32) (v25 : BitVec 32) {Q : _ → sProp (MT nD τ sig Unit (Elt F) ℕ UU ℕ)} :
    iprop(records m ρ K ∗ levAts L lv ∗ srcAny c (false, 1, 0) ∗ Owes c 7 ∗ Todo c (false, 1, 0) ∗ Await c (true, 0, 1))
      ⊢ iprop(((Owes c 8 ∗ Flying c (false, 1, 0) ∗ Arrived m ρ c (true, 0, 1)) -∗ Q ⟨⟩)
        -∗ wp frame (wpE (defs₀ (F := F)) 𝒱₀ (c : Thread nD τ) none) Set.univ (k0_part14 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v14 v25 (k0_pay19 (kept m ρ false 1 0 c)) (k0_pay20 (sent m ρ (false, 0, 0) (dst (!false) c)))) Q) := by
  rw [k0_part14_eq_skeleton]; unfold k0_part14_skel
  simp only [Prog.lift, Prog.bind_op, Prog.bind_ret, Prog.pure_eq_ret]
  unfold srcAny
  iintro ⟨#HR, #Hlev, ⟨%XHSf10, HSf10⟩, HO, HTf10, HAt01⟩ Hk
  iapply (load_slice 𝒱₀ (c : Thread nD τ) none Set.univ (m := sAll false)) $$ HSf10; iintro HSf10
  iapply (store_slice 𝒱₀ (c : Thread nD τ) none Set.univ (m := sAll false)) $$ HSf10; iintro HSf10
  iapply (go_start m ρ K c 7 (false, 1, 0) rfl (dev8_eq c)) $$ [HO HTf10 HSf10]
  · isplitr; · iexact HR
    isplitl [HO]; · iexact HO
    isplitl [HTf10]; · iexact HTf10
    iexact HSf10
  iintro ⟨HO, HFf10⟩
  iapply (go_recv m ρ K c 8 (true, 0, 1) (by decide)) $$ [HO HAt01]
  · isplitr; · iexact HR
    isplitr; · iexact Hlev
    isplitl [HO]; · iexact HO
    iexact HAt01
  unfold Arrived; iintro ⟨HO, HLt01, HZt01⟩
  rw [wp_ret]; imodintro
  iapply Hk
  isplitl [HO]; · iexact HO
  isplitl [HFf10]; · iexact HFf10
  isplitl [HLt01]; · iexact HLt01
  iexact HZt01

/-- Part 15 of the program. -/
theorem part15_walk (v14 : BitVec 32) (v25 : BitVec 32) {Q : _ → sProp (MT nD τ sig Unit (Elt F) ℕ UU ℕ)} :
    iprop(records m ρ K ∗ keptAt c (true, 0, 1) (kept m ρ true 1 1 c) ∗ Arrived m ρ c (true, 0, 1) ∗ srcAny c (true, 1, 1) ∗ Owes c 8 ∗ Todo c (true, 1, 1))
      ⊢ iprop(((keptAt c (true, 0, 1) (kept m ρ true 1 1 c) ∗ Arrived m ρ c (true, 0, 1) ∗ Owes c 9 ∗ Flying c (true, 1, 1)) -∗ Q ⟨⟩)
        -∗ wp frame (wpE (defs₀ (F := F)) 𝒱₀ (c : Thread nD τ) none) Set.univ (k0_part15 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v14 v25) Q) := by
  rw [k0_part15_eq_skeleton]; unfold k0_part15_skel
  simp only [Prog.lift, Prog.bind_op, Prog.bind_ret, Prog.pure_eq_ret]
  unfold Arrived srcAny
  iintro ⟨#HR, HPt01, ⟨HLt01, HZt01⟩, ⟨%XHSt11, HSt11⟩, HO, HTt11⟩ Hk
  iapply (load_slice 𝒱₀ (c : Thread nD τ) none Set.univ (m := pAll true)) $$ HPt01; iintro HPt01
  iapply (load_slice 𝒱₀ (c : Thread nD τ) none Set.univ (m := lAll true)) $$ HLt01; iintro HLt01
  iapply (load_slice 𝒱₀ (c : Thread nD τ) none Set.univ (m := sAll true)) $$ HSt11; iintro HSt11
  iapply (store_slice 𝒱₀ (c : Thread nD τ) none Set.univ (m := sAll true)) $$ HSt11; iintro HSt11
  iapply (go_start m ρ K c 8 (true, 1, 1) rfl (dev9_eq c)) $$ [HO HTt11 HSt11]
  · isplitr; · iexact HR
    isplitl [HO]; · iexact HO
    isplitl [HTt11]; · iexact HTt11
    iexact HSt11
  iintro ⟨HO, HFt11⟩
  rw [wp_ret]; imodintro
  iapply Hk
  isplitl [HPt01]; · iexact HPt01
  isplitl [HLt01 HZt01]
  · isplitl [HLt01]
    · iexact HLt01
    iexact HZt01
  isplitl [HO]; · iexact HO
  iexact HFt11

/-- Part 16 of the program. -/
theorem part16_walk (v14 : BitVec 32) {Q : _ → sProp (MT nD τ sig Unit (Elt F) ℕ UU ℕ)} :
    iprop(records m ρ K ∗ levAts L lv ∗ Owes c 9 ∗ Await c (false, 0, 1) ∗ keptAt c (false, 0, 1) (kept m ρ false 1 1 c) ∗ srcAny c (false, 1, 1) ∗ Todo c (false, 1, 1))
      ⊢ iprop(((Owes c 10 ∗ Arrived m ρ c (false, 0, 1) ∗ keptAt c (false, 0, 1) (kept m ρ false 1 1 c) ∗ Flying c (false, 1, 1)) -∗ Q ⟨⟩)
        -∗ wp frame (wpE (defs₀ (F := F)) 𝒱₀ (c : Thread nD τ) none) Set.univ (k0_part16 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v14) Q) := by
  rw [k0_part16_eq_skeleton]; unfold k0_part16_skel
  simp only [Prog.lift, Prog.bind_op, Prog.bind_ret, Prog.pure_eq_ret]
  unfold srcAny
  iintro ⟨#HR, #Hlev, HO, HAf01, HPf01, ⟨%XHSf11, HSf11⟩, HTf11⟩ Hk
  iapply (go_recv m ρ K c 9 (false, 0, 1) (by decide)) $$ [HO HAf01]
  · isplitr; · iexact HR
    isplitr; · iexact Hlev
    isplitl [HO]; · iexact HO
    iexact HAf01
  unfold Arrived; iintro ⟨HO, HLf01, HZf01⟩
  iapply (load_slice 𝒱₀ (c : Thread nD τ) none Set.univ (m := pAll false)) $$ HPf01; iintro HPf01
  iapply (load_slice 𝒱₀ (c : Thread nD τ) none Set.univ (m := lAll false)) $$ HLf01; iintro HLf01
  iapply (load_slice 𝒱₀ (c : Thread nD τ) none Set.univ (m := sAll false)) $$ HSf11; iintro HSf11
  iapply (store_slice 𝒱₀ (c : Thread nD τ) none Set.univ (m := sAll false)) $$ HSf11; iintro HSf11
  iapply (go_start m ρ K c 9 (false, 1, 1) rfl (dev10_eq c)) $$ [HO HTf11 HSf11]
  · isplitr; · iexact HR
    isplitl [HO]; · iexact HO
    isplitl [HTf11]; · iexact HTf11
    iexact HSf11
  iintro ⟨HO, HFf11⟩
  rw [wp_ret]; imodintro
  iapply Hk
  isplitl [HO]; · iexact HO
  isplitl [HLf01 HZf01]
  · isplitl [HLf01]
    · iexact HLf01
    iexact HZf01
  isplitl [HPf01]; · iexact HPf01
  iexact HFf11

/-- Part 17 of the program. -/
theorem part17_walk (v25 : BitVec 32) {Q : _ → sProp (MT nD τ sig Unit (Elt F) ℕ UU ℕ)} :
    iprop(records m ρ K ∗ levAts L lv ∗ Owes c 10 ∗ Await c (true, 1, 0) ∗ keptAt c (true, 1, 0) (kept m ρ true 2 0 c) ∗ srcAny c (true, 2, 0))
      ⊢ iprop(((Owes c 10 ∗ Arrived m ρ c (true, 1, 0) ∗ keptAt c (true, 1, 0) (kept m ρ true 2 0 c) ∗ srcAt c (true, 2, 0) (sent m ρ (true, 2, 0) c)) -∗ Q ⟨⟩)
        -∗ wp frame (wpE (defs₀ (F := F)) 𝒱₀ (c : Thread nD τ) none) Set.univ (k0_part17 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 v25) Q) := by
  rw [k0_part17_eq_skeleton]; unfold k0_part17_skel
  simp only [Prog.lift, Prog.bind_op, Prog.bind_ret, Prog.pure_eq_ret]
  unfold srcAny
  iintro ⟨#HR, #Hlev, HO, HAt10, HPt10, ⟨%XHSt20, HSt20⟩⟩ Hk
  iapply (go_recv m ρ K c 10 (true, 1, 0) (by decide)) $$ [HO HAt10]
  · isplitr; · iexact HR
    isplitr; · iexact Hlev
    isplitl [HO]; · iexact HO
    iexact HAt10
  unfold Arrived; iintro ⟨HO, HLt10, HZt10⟩
  iapply (load_slice 𝒱₀ (c : Thread nD τ) none Set.univ (m := pAll true)) $$ HPt10; iintro HPt10
  iapply (load_slice 𝒱₀ (c : Thread nD τ) none Set.univ (m := lAll true)) $$ HLt10; iintro HLt10
  iapply (load_slice 𝒱₀ (c : Thread nD τ) none Set.univ (m := sAll true)) $$ HSt20; iintro HSt20
  iapply (store_slice 𝒱₀ (c : Thread nD τ) none Set.univ (m := sAll true)) $$ HSt20; iintro HSt20
  rw [wp_ret]; imodintro
  iapply Hk
  isplitl [HO]; · iexact HO
  isplitl [HLt10 HZt10]
  · isplitl [HLt10]
    · iexact HLt10
    iexact HZt10
  isplitl [HPt10]; · iexact HPt10
  iexact HSt20

/-- Part 18 of the program. -/
theorem part18_walk (v14 : BitVec 32) {Q : _ → sProp (MT nD τ sig Unit (Elt F) ℕ UU ℕ)} :
    iprop(records m ρ K ∗ levAts L lv ∗ Owes c 10 ∗ Todo c (true, 2, 0) ∗ srcAt c (true, 2, 0) (sent m ρ (true, 2, 0) c) ∗ Await c (false, 1, 0) ∗ keptAt c (false, 1, 0) (kept m ρ false 2 0 c) ∗ srcAny c (false, 2, 0))
      ⊢ iprop(((Owes c 11 ∗ Flying c (true, 2, 0) ∗ Arrived m ρ c (false, 1, 0) ∗ keptAt c (false, 1, 0) (kept m ρ false 2 0 c) ∗ srcAt c (false, 2, 0) (sent m ρ (false, 2, 0) c)) -∗ Q ⟨⟩)
        -∗ wp frame (wpE (defs₀ (F := F)) 𝒱₀ (c : Thread nD τ) none) Set.univ (k0_part18 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v14) Q) := by
  rw [k0_part18_eq_skeleton]; unfold k0_part18_skel
  simp only [Prog.lift, Prog.bind_op, Prog.bind_ret, Prog.pure_eq_ret]
  unfold srcAny
  iintro ⟨#HR, #Hlev, HO, HTt20, HSt20, HAf10, HPf10, ⟨%XHSf20, HSf20⟩⟩ Hk
  iapply (go_start m ρ K c 10 (true, 2, 0) rfl (dev11_eq c)) $$ [HO HTt20 HSt20]
  · isplitr; · iexact HR
    isplitl [HO]; · iexact HO
    isplitl [HTt20]; · iexact HTt20
    iexact HSt20
  iintro ⟨HO, HFt20⟩
  iapply (go_recv m ρ K c 11 (false, 1, 0) (by decide)) $$ [HO HAf10]
  · isplitr; · iexact HR
    isplitr; · iexact Hlev
    isplitl [HO]; · iexact HO
    iexact HAf10
  unfold Arrived; iintro ⟨HO, HLf10, HZf10⟩
  iapply (load_slice 𝒱₀ (c : Thread nD τ) none Set.univ (m := pAll false)) $$ HPf10; iintro HPf10
  iapply (load_slice 𝒱₀ (c : Thread nD τ) none Set.univ (m := lAll false)) $$ HLf10; iintro HLf10
  iapply (load_slice 𝒱₀ (c : Thread nD τ) none Set.univ (m := sAll false)) $$ HSf20; iintro HSf20
  iapply (store_slice 𝒱₀ (c : Thread nD τ) none Set.univ (m := sAll false)) $$ HSf20; iintro HSf20
  rw [wp_ret]; imodintro
  iapply Hk
  isplitl [HO]; · iexact HO
  isplitl [HFt20]; · iexact HFt20
  isplitl [HLf10 HZf10]
  · isplitl [HLf10]
    · iexact HLf10
    iexact HZf10
  isplitl [HPf10]; · iexact HPf10
  iexact HSf20

/-- Part 19 of the program. -/
theorem part19_walk (v14 : BitVec 32) (v25 : BitVec 32) {Q : _ → sProp (MT nD τ sig Unit (Elt F) ℕ UU ℕ)} :
    iprop(records m ρ K ∗ levAts L lv ∗ Owes c 11 ∗ Todo c (false, 2, 0) ∗ srcAt c (false, 2, 0) (sent m ρ (false, 2, 0) c) ∗ Await c (true, 1, 1) ∗ keptAt c (true, 1, 1) (kept m ρ true 2 1 c))
      ⊢ iprop((∀ r, (⌜r = (k0_pay26 (kept m ρ true 2 1 c) (sent m ρ (true, 1, 1) (dst (!true) c)))⌝ ∗ Owes c 12 ∗ Flying c (false, 2, 0) ∗ Arrived m ρ c (true, 1, 1) ∗ keptAt c (true, 1, 1) (kept m ρ true 2 1 c)) -∗ Q r)
        -∗ wp frame (wpE (defs₀ (F := F)) 𝒱₀ (c : Thread nD τ) none) Set.univ (k0_part19 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v14 v25) Q) := by
  rw [k0_part19_eq_skeleton]; unfold k0_part19_skel
  simp only [Prog.lift, Prog.bind_op, Prog.bind_ret, Prog.pure_eq_ret]
  iintro ⟨#HR, #Hlev, HO, HTf20, HSf20, HAt11, HPt11⟩ Hk
  iapply (go_start m ρ K c 11 (false, 2, 0) rfl (dev12_eq c)) $$ [HO HTf20 HSf20]
  · isplitr; · iexact HR
    isplitl [HO]; · iexact HO
    isplitl [HTf20]; · iexact HTf20
    iexact HSf20
  iintro ⟨HO, HFf20⟩
  iapply (go_recv m ρ K c 12 (true, 1, 1) (by decide)) $$ [HO HAt11]
  · isplitr; · iexact HR
    isplitr; · iexact Hlev
    isplitl [HO]; · iexact HO
    iexact HAt11
  unfold Arrived; iintro ⟨HO, HLt11, HZt11⟩
  iapply (load_slice 𝒱₀ (c : Thread nD τ) none Set.univ (m := pAll true)) $$ HPt11; iintro HPt11
  iapply (load_slice 𝒱₀ (c : Thread nD τ) none Set.univ (m := lAll true)) $$ HLt11; iintro HLt11
  rw [wp_ret]; imodintro
  iapply Hk $$ %_
  isplitr; · ipureintro; rfl
  isplitl [HO]; · iexact HO
  isplitl [HFf20]; · iexact HFf20
  isplitl [HLt11 HZt11]
  · isplitl [HLt11]
    · iexact HLt11
    iexact HZt11
  iexact HPt11

/-- Part 20 of the program. -/
theorem part20_walk (v14 : BitVec 32) (v25 : BitVec 32) {Q : _ → sProp (MT nD τ sig Unit (Elt F) ℕ UU ℕ)} :
    iprop(records m ρ K ∗ levAts L lv ∗ srcAny c (true, 2, 1) ∗ Owes c 12 ∗ Todo c (true, 2, 1) ∗ Await c (false, 1, 1) ∗ keptAt c (false, 1, 1) (kept m ρ false 2 1 c))
      ⊢ iprop((∀ r, (⌜r = (k0_pay28 (kept m ρ false 2 1 c))⌝ ∗ Owes c 13 ∗ Flying c (true, 2, 1) ∗ Arrived m ρ c (false, 1, 1) ∗ keptAt c (false, 1, 1) (kept m ρ false 2 1 c)) -∗ Q r)
        -∗ wp frame (wpE (defs₀ (F := F)) 𝒱₀ (c : Thread nD τ) none) Set.univ (k0_part20 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v14 v25 (k0_pay26 (kept m ρ true 2 1 c) (sent m ρ (true, 1, 1) (dst (!true) c)))) Q) := by
  rw [k0_part20_eq_skeleton]; unfold k0_part20_skel
  simp only [Prog.lift, Prog.bind_op, Prog.bind_ret, Prog.pure_eq_ret]
  unfold srcAny
  iintro ⟨#HR, #Hlev, ⟨%XHSt21, HSt21⟩, HO, HTt21, HAf11, HPf11⟩ Hk
  iapply (load_slice 𝒱₀ (c : Thread nD τ) none Set.univ (m := sAll true)) $$ HSt21; iintro HSt21
  iapply (store_slice 𝒱₀ (c : Thread nD τ) none Set.univ (m := sAll true)) $$ HSt21; iintro HSt21
  iapply (go_start m ρ K c 12 (true, 2, 1) rfl (dev13_eq c)) $$ [HO HTt21 HSt21]
  · isplitr; · iexact HR
    isplitl [HO]; · iexact HO
    isplitl [HTt21]; · iexact HTt21
    iexact HSt21
  iintro ⟨HO, HFt21⟩
  iapply (go_recv m ρ K c 13 (false, 1, 1) (by decide)) $$ [HO HAf11]
  · isplitr; · iexact HR
    isplitr; · iexact Hlev
    isplitl [HO]; · iexact HO
    iexact HAf11
  unfold Arrived; iintro ⟨HO, HLf11, HZf11⟩
  iapply (load_slice 𝒱₀ (c : Thread nD τ) none Set.univ (m := pAll false)) $$ HPf11; iintro HPf11
  rw [wp_ret]; imodintro
  iapply Hk $$ %_
  isplitr; · ipureintro; rfl
  isplitl [HO]; · iexact HO
  isplitl [HFt21]; · iexact HFt21
  isplitl [HLf11 HZf11]
  · isplitl [HLf11]
    · iexact HLf11
    iexact HZf11
  iexact HPf11

/-- Part 21 of the program. -/
theorem part21_walk (v14 : BitVec 32) (v25 : BitVec 32) {Q : _ → sProp (MT nD τ sig Unit (Elt F) ℕ UU ℕ)} :
    iprop(records m ρ K ∗ Arrived m ρ c (false, 1, 1) ∗ srcAny c (false, 2, 1) ∗ Owes c 13 ∗ Todo c (false, 2, 1))
      ⊢ iprop(((Arrived m ρ c (false, 1, 1) ∗ Owes c 14 ∗ Flying c (false, 2, 1)) -∗ Q ⟨⟩)
        -∗ wp frame (wpE (defs₀ (F := F)) 𝒱₀ (c : Thread nD τ) none) Set.univ (k0_part21 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 c v14 v25 (k0_pay28 (kept m ρ false 2 1 c))) Q) := by
  rw [k0_part21_eq_skeleton]; unfold k0_part21_skel
  simp only [Prog.lift, Prog.bind_op, Prog.bind_ret, Prog.pure_eq_ret]
  unfold Arrived srcAny
  iintro ⟨#HR, ⟨HLf11, HZf11⟩, ⟨%XHSf21, HSf21⟩, HO, HTf21⟩ Hk
  iapply (load_slice 𝒱₀ (c : Thread nD τ) none Set.univ (m := lAll false)) $$ HLf11; iintro HLf11
  iapply (load_slice 𝒱₀ (c : Thread nD τ) none Set.univ (m := sAll false)) $$ HSf21; iintro HSf21
  iapply (store_slice 𝒱₀ (c : Thread nD τ) none Set.univ (m := sAll false)) $$ HSf21; iintro HSf21
  iapply (go_start m ρ K c 13 (false, 2, 1) rfl (dev14_eq c)) $$ [HO HTf21 HSf21]
  · isplitr; · iexact HR
    isplitl [HO]; · iexact HO
    isplitl [HTf21]; · iexact HTf21
    iexact HSf21
  iintro ⟨HO, HFf21⟩
  rw [wp_ret]; imodintro
  iapply Hk
  isplitl [HLf11 HZf11]
  · isplitl [HLf11]
    · iexact HLf11
    iexact HZf11
  isplitl [HO]; · iexact HO
  iexact HFf21

/-- Part 22 of the program. -/
theorem part22_walk (v14 : BitVec 32) {Q : _ → sProp (MT nD τ sig Unit (Elt F) ℕ UU ℕ)} :
    iprop(records m ρ K ∗ levAts L lv ∗ Owes c 14 ∗ Await c (true, 2, 0) ∗ ownAt c (own m ρ c) ∗ outAny c 0 ∗ Await c (false, 2, 0))
      ⊢ iprop(((Owes c 14 ∗ Arrived m ρ c (true, 2, 0) ∗ ownAt c (own m ρ c) ∗ outAt c 0 (outQ m ρ true 0 c) ∗ Arrived m ρ c (false, 2, 0)) -∗ Q ⟨⟩)
        -∗ wp frame (wpE (defs₀ (F := F)) 𝒱₀ (c : Thread nD τ) none) Set.univ (k0_part22 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 v14) Q) := by
  rw [k0_part22_eq_skeleton]; unfold k0_part22_skel
  simp only [Prog.lift, Prog.bind_op, Prog.bind_ret, Prog.pure_eq_ret]
  unfold outAny
  iintro ⟨#HR, #Hlev, HO, HAt20, HN, ⟨%XHU0, HU0⟩, HAf20⟩ Hk
  iapply (go_recv m ρ K c 14 (true, 2, 0) (by decide)) $$ [HO HAt20]
  · isplitr; · iexact HR
    isplitr; · iexact Hlev
    isplitl [HO]; · iexact HO
    iexact HAt20
  unfold Arrived; iintro ⟨HO, HLt20, HZt20⟩
  iapply (load_whole 𝒱₀ (c : Thread nD τ) none Set.univ (m := ownM)) $$ HN; iintro HN
  iapply (load_slice 𝒱₀ (c : Thread nD τ) none Set.univ (m := lAll true)) $$ HLt20; iintro HLt20
  iapply (load_slice 𝒱₀ (c : Thread nD τ) none Set.univ (m := oM)) $$ HU0; iintro HU0
  iapply (store_slice 𝒱₀ (c : Thread nD τ) none Set.univ (m := oM)) $$ HU0; iintro HU0
  iapply (go_recv m ρ K c 14 (false, 2, 0) (by decide)) $$ [HO HAf20]
  · isplitr; · iexact HR
    isplitr; · iexact Hlev
    isplitl [HO]; · iexact HO
    iexact HAf20
  unfold Arrived; iintro ⟨HO, HLf20, HZf20⟩
  rw [wp_ret]; imodintro
  iapply Hk
  isplitl [HO]; · iexact HO
  isplitl [HLt20 HZt20]
  · isplitl [HLt20]
    · iexact HLt20
    iexact HZt20
  isplitl [HN]; · iexact HN
  isplitl [HU0]; · iexact HU0
  isplitl [HLf20]; · iexact HLf20
  iexact HZf20

/-- Part 23 of the program. -/
theorem part23_walk (v25 : BitVec 32) {Q : _ → sProp (MT nD τ sig Unit (Elt F) ℕ UU ℕ)} :
    iprop(records m ρ K ∗ levAts L lv ∗ ownAt c (own m ρ c) ∗ Arrived m ρ c (false, 2, 0) ∗ outAny c 2 ∗ Owes c 14 ∗ Await c (true, 2, 1))
      ⊢ iprop((∀ r, (⌜r = (fun i => own m ρ c ((colRect 1).emb i))⌝ ∗ ownAt c (own m ρ c) ∗ Arrived m ρ c (false, 2, 0) ∗ outAt c 2 (outQ m ρ false 0 c) ∗ Owes c 14 ∗ Arrived m ρ c (true, 2, 1)) -∗ Q r)
        -∗ wp frame (wpE (defs₀ (F := F)) 𝒱₀ (c : Thread nD τ) none) Set.univ (k0_part23 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 v25) Q) := by
  rw [k0_part23_eq_skeleton]; unfold k0_part23_skel
  simp only [Prog.lift, Prog.bind_op, Prog.bind_ret, Prog.pure_eq_ret]
  unfold Arrived outAny
  iintro ⟨#HR, #Hlev, HN, ⟨HLf20, HZf20⟩, ⟨%XHU2, HU2⟩, HO, HAt21⟩ Hk
  iapply (load_whole 𝒱₀ (c : Thread nD τ) none Set.univ (m := ownM)) $$ HN; iintro HN
  iapply (load_slice 𝒱₀ (c : Thread nD τ) none Set.univ (m := lAll false)) $$ HLf20; iintro HLf20
  iapply (load_slice 𝒱₀ (c : Thread nD τ) none Set.univ (m := oM)) $$ HU2; iintro HU2
  iapply (store_slice 𝒱₀ (c : Thread nD τ) none Set.univ (m := oM)) $$ HU2; iintro HU2
  iapply (go_recv m ρ K c 14 (true, 2, 1) (by decide)) $$ [HO HAt21]
  · isplitr; · iexact HR
    isplitr; · iexact Hlev
    isplitl [HO]; · iexact HO
    iexact HAt21
  unfold Arrived; iintro ⟨HO, HLt21, HZt21⟩
  iapply (load_whole 𝒱₀ (c : Thread nD τ) none Set.univ (m := ownM)) $$ HN; iintro HN
  rw [wp_ret]; imodintro
  iapply Hk $$ %_
  isplitr; · ipureintro; rfl
  isplitl [HN]; · iexact HN
  isplitl [HLf20 HZf20]
  · isplitl [HLf20]
    · iexact HLf20
    iexact HZf20
  isplitl [HU2]; · iexact HU2
  isplitl [HO]; · iexact HO
  isplitl [HLt21]; · iexact HLt21
  iexact HZt21

/-- Part 24 of the program. -/
theorem part24_walk (v14 : BitVec 32) {Q : _ → sProp (MT nD τ sig Unit (Elt F) ℕ UU ℕ)} :
    iprop(records m ρ K ∗ levAts L lv ∗ Arrived m ρ c (true, 2, 1) ∗ outAny c 1 ∗ Owes c 14 ∗ Await c (false, 2, 1) ∗ ownAt c (own m ρ c))
      ⊢ iprop((∀ r, (⌜r = ⟨fun i => own m ρ c ((colRect 3).emb i), k0_pay33 (sent m ρ (false, 2, 1) (dst (!false) c))⟩⌝ ∗ Arrived m ρ c (true, 2, 1) ∗ outAt c 1 (outQ m ρ true 1 c) ∗ Owes c 14 ∗ Arrived m ρ c (false, 2, 1) ∗ ownAt c (own m ρ c)) -∗ Q r)
        -∗ wp frame (wpE (defs₀ (F := F)) 𝒱₀ (c : Thread nD τ) none) Set.univ (k0_part24 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 v14 (fun i => own m ρ c ((colRect 1).emb i))) Q) := by
  rw [k0_part24_eq_skeleton]; unfold k0_part24_skel
  simp only [Prog.lift, Prog.bind_op, Prog.bind_ret, Prog.pure_eq_ret]
  unfold Arrived outAny
  iintro ⟨#HR, #Hlev, ⟨HLt21, HZt21⟩, ⟨%XHU1, HU1⟩, HO, HAf21, HN⟩ Hk
  iapply (load_slice 𝒱₀ (c : Thread nD τ) none Set.univ (m := lAll true)) $$ HLt21; iintro HLt21
  iapply (load_slice 𝒱₀ (c : Thread nD τ) none Set.univ (m := oM)) $$ HU1; iintro HU1
  iapply (store_slice 𝒱₀ (c : Thread nD τ) none Set.univ (m := oM)) $$ HU1; iintro HU1
  iapply (go_recv m ρ K c 14 (false, 2, 1) (by decide)) $$ [HO HAf21]
  · isplitr; · iexact HR
    isplitr; · iexact Hlev
    isplitl [HO]; · iexact HO
    iexact HAf21
  unfold Arrived; iintro ⟨HO, HLf21, HZf21⟩
  iapply (load_whole 𝒱₀ (c : Thread nD τ) none Set.univ (m := ownM)) $$ HN; iintro HN
  iapply (load_slice 𝒱₀ (c : Thread nD τ) none Set.univ (m := lAll false)) $$ HLf21; iintro HLf21
  rw [wp_ret]; imodintro
  iapply Hk $$ %_
  isplitr; · ipureintro; rfl
  isplitl [HLt21 HZt21]
  · isplitl [HLt21]
    · iexact HLt21
    iexact HZt21
  isplitl [HU1]; · iexact HU1
  isplitl [HO]; · iexact HO
  isplitl [HLf21 HZf21]
  · isplitl [HLf21]
    · iexact HLf21
    iexact HZf21
  iexact HN

/-- Part 25 of the program. -/
theorem part25_walk {Q : _ → sProp (MT nD τ sig Unit (Elt F) ℕ UU ℕ)} :
    iprop(records m ρ K ∗ levAts L lv ∗ outAny c 3 ∗ Owes c 14 ∗ Flying c (true, 0, 0))
      ⊢ iprop(((outAt c 3 (outQ m ρ false 1 c) ∗ Owes c 14 ∗ Done c (true, 0, 0)) -∗ Q ⟨⟩)
        -∗ wp frame (wpE (defs₀ (F := F)) 𝒱₀ (c : Thread nD τ) none) Set.univ (k0_part25 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0 (fun i => own m ρ c ((colRect 3).emb i)) (k0_pay33 (sent m ρ (false, 2, 1) (dst (!false) c)))) Q) := by
  rw [k0_part25_eq_skeleton]; unfold k0_part25_skel
  simp only [Prog.lift, Prog.bind_op, Prog.bind_ret, Prog.pure_eq_ret]
  unfold outAny
  iintro ⟨#HR, #Hlev, ⟨%XHU3, HU3⟩, HO, HFt00⟩ Hk
  iapply (load_slice 𝒱₀ (c : Thread nD τ) none Set.univ (m := oM)) $$ HU3; iintro HU3
  iapply (store_slice 𝒱₀ (c : Thread nD τ) none Set.univ (m := oM)) $$ HU3; iintro HU3
  iapply (go_back m ρ K c 14 (true, 0, 0) (by decide)) $$ [HO HFt00]
  · isplitr; · iexact HR
    isplitr; · iexact Hlev
    isplitl [HO]; · iexact HO
    iexact HFt00
  iintro ⟨HO, HDt00⟩
  rw [wp_ret]; imodintro
  iapply Hk
  isplitl [HU3]; · iexact HU3
  isplitl [HO]; · iexact HO
  iexact HDt00

/-- Part 26 of the program. -/
theorem part26_walk {Q : _ → sProp (MT nD τ sig Unit (Elt F) ℕ UU ℕ)} :
    iprop(records m ρ K ∗ levAts L lv ∗ Owes c 14 ∗ Flying c (false, 0, 0) ∗ Flying c (true, 0, 1) ∗ Flying c (false, 0, 1))
      ⊢ iprop(((Owes c 14 ∗ Done c (false, 0, 0) ∗ Done c (true, 0, 1) ∗ Done c (false, 0, 1)) -∗ Q ⟨⟩)
        -∗ wp frame (wpE (defs₀ (F := F)) 𝒱₀ (c : Thread nD τ) none) Set.univ (k0_part26 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0) Q) := by
  rw [k0_part26_eq_skeleton]; unfold k0_part26_skel
  simp only [Prog.lift, Prog.bind_op, Prog.bind_ret, Prog.pure_eq_ret]
  iintro ⟨#HR, #Hlev, HO, HFf00, HFt01, HFf01⟩ Hk
  iapply (go_back m ρ K c 14 (false, 0, 0) (by decide)) $$ [HO HFf00]
  · isplitr; · iexact HR
    isplitr; · iexact Hlev
    isplitl [HO]; · iexact HO
    iexact HFf00
  iintro ⟨HO, HDf00⟩
  iapply (go_back m ρ K c 14 (true, 0, 1) (by decide)) $$ [HO HFt01]
  · isplitr; · iexact HR
    isplitr; · iexact Hlev
    isplitl [HO]; · iexact HO
    iexact HFt01
  iintro ⟨HO, HDt01⟩
  iapply (go_back m ρ K c 14 (false, 0, 1) (by decide)) $$ [HO HFf01]
  · isplitr; · iexact HR
    isplitr; · iexact Hlev
    isplitl [HO]; · iexact HO
    iexact HFf01
  iintro ⟨HO, HDf01⟩
  rw [wp_ret]; imodintro
  iapply Hk
  isplitl [HO]; · iexact HO
  isplitl [HDf00]; · iexact HDf00
  isplitl [HDt01]; · iexact HDt01
  iexact HDf01

/-- Part 27 of the program. -/
theorem part27_walk {Q : _ → sProp (MT nD τ sig Unit (Elt F) ℕ UU ℕ)} :
    iprop(records m ρ K ∗ levAts L lv ∗ Owes c 14 ∗ Flying c (true, 1, 0) ∗ Flying c (false, 1, 0) ∗ Flying c (true, 1, 1))
      ⊢ iprop(((Owes c 14 ∗ Done c (true, 1, 0) ∗ Done c (false, 1, 0) ∗ Done c (true, 1, 1)) -∗ Q ⟨⟩)
        -∗ wp frame (wpE (defs₀ (F := F)) 𝒱₀ (c : Thread nD τ) none) Set.univ (k0_part27 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0) Q) := by
  rw [k0_part27_eq_skeleton]; unfold k0_part27_skel
  simp only [Prog.lift, Prog.bind_op, Prog.bind_ret, Prog.pure_eq_ret]
  iintro ⟨#HR, #Hlev, HO, HFt10, HFf10, HFt11⟩ Hk
  iapply (go_back m ρ K c 14 (true, 1, 0) (by decide)) $$ [HO HFt10]
  · isplitr; · iexact HR
    isplitr; · iexact Hlev
    isplitl [HO]; · iexact HO
    iexact HFt10
  iintro ⟨HO, HDt10⟩
  iapply (go_back m ρ K c 14 (false, 1, 0) (by decide)) $$ [HO HFf10]
  · isplitr; · iexact HR
    isplitr; · iexact Hlev
    isplitl [HO]; · iexact HO
    iexact HFf10
  iintro ⟨HO, HDf10⟩
  iapply (go_back m ρ K c 14 (true, 1, 1) (by decide)) $$ [HO HFt11]
  · isplitr; · iexact HR
    isplitr; · iexact Hlev
    isplitl [HO]; · iexact HO
    iexact HFt11
  iintro ⟨HO, HDt11⟩
  rw [wp_ret]; imodintro
  iapply Hk
  isplitl [HO]; · iexact HO
  isplitl [HDt10]; · iexact HDt10
  isplitl [HDf10]; · iexact HDf10
  iexact HDt11

/-- Part 28 of the program. -/
theorem part28_walk {Q : _ → sProp (MT nD τ sig Unit (Elt F) ℕ UU ℕ)} :
    iprop(records m ρ K ∗ levAts L lv ∗ Owes c 14 ∗ Flying c (false, 1, 1) ∗ Flying c (true, 2, 0) ∗ Flying c (false, 2, 0))
      ⊢ iprop(((Owes c 14 ∗ Done c (false, 1, 1) ∗ Done c (true, 2, 0) ∗ Done c (false, 2, 0)) -∗ Q ⟨⟩)
        -∗ wp frame (wpE (defs₀ (F := F)) 𝒱₀ (c : Thread nD τ) none) Set.univ (k0_part28 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0) Q) := by
  rw [k0_part28_eq_skeleton]; unfold k0_part28_skel
  simp only [Prog.lift, Prog.bind_op, Prog.bind_ret, Prog.pure_eq_ret]
  iintro ⟨#HR, #Hlev, HO, HFf11, HFt20, HFf20⟩ Hk
  iapply (go_back m ρ K c 14 (false, 1, 1) (by decide)) $$ [HO HFf11]
  · isplitr; · iexact HR
    isplitr; · iexact Hlev
    isplitl [HO]; · iexact HO
    iexact HFf11
  iintro ⟨HO, HDf11⟩
  iapply (go_back m ρ K c 14 (true, 2, 0) (by decide)) $$ [HO HFt20]
  · isplitr; · iexact HR
    isplitr; · iexact Hlev
    isplitl [HO]; · iexact HO
    iexact HFt20
  iintro ⟨HO, HDt20⟩
  iapply (go_back m ρ K c 14 (false, 2, 0) (by decide)) $$ [HO HFf20]
  · isplitr; · iexact HR
    isplitr; · iexact Hlev
    isplitl [HO]; · iexact HO
    iexact HFf20
  iintro ⟨HO, HDf20⟩
  rw [wp_ret]; imodintro
  iapply Hk
  isplitl [HO]; · iexact HO
  isplitl [HDf11]; · iexact HDf11
  isplitl [HDt20]; · iexact HDt20
  iexact HDf20

end Cert.KernelIdealProof

end
-- ==== Proof.KernelIdealWalk.lean ====
/-
The whole program on a symbolic device: the entry handshake, the parts in order, the exit handshake.

The parts are applied one after another; what a device holds is listed by slot, so that each part takes exactly
the pieces it names and leaves the others alone.
-/
module

public import proofs.«01_k».proof.Proof.KernelIdealParts

@[expose] public section

noncomputable section

namespace Cert.KernelIdealProof

open Cert.KernelIdeal Cert.KernelIdeal.Gen Cert.Owned
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Listing the slots -/

omit [FloatOps F] in
/-- A product over the slots, written out in the order of the program. -/
theorem slots_eq (Φ : Slot → sProp 𝕄) : bigSep Finset.univ Φ = iprop(Φ (true, 0, 0) ∗ Φ (false, 0, 0) ∗ Φ (true, 0, 1) ∗ Φ (false, 0, 1) ∗ Φ (true, 1, 0) ∗ Φ (false, 1, 0) ∗ Φ (true, 1, 1) ∗ Φ (false, 1, 1) ∗ Φ (true, 2, 0) ∗ Φ (false, 2, 0) ∗ Φ (true, 2, 1) ∗ Φ (false, 2, 1)) :=
  bigSep_univ_eq_bigSepL order (by decide) (by decide) Φ
omit [FloatOps F] in
/-- A product over the kept products, written out. -/
theorem kepts_eq (Φ : Kept → sProp 𝕄) : bigSep Finset.univ Φ = iprop(Φ (true, 0, 0) ∗ Φ (true, 0, 1) ∗ Φ (true, 1, 0) ∗ Φ (true, 1, 1) ∗ Φ (false, 0, 0) ∗ Φ (false, 0, 1) ∗ Φ (false, 1, 0) ∗ Φ (false, 1, 1)) :=
  bigSep_univ_eq_bigSepL [(true, 0, 0), (true, 0, 1), (true, 1, 0), (true, 1, 1), (false, 0, 0), (false, 0, 1), (false, 1, 0), (false, 1, 1)] (by decide) (by decide) Φ
omit [FloatOps F] in
/-- A product over the quarters, written out. -/
theorem cols_eq (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
/-- A product over the two directions, written out. -/
theorem bool_eq (Φ : Bool → sProp 𝕄) : bigSep Finset.univ Φ = iprop(Φ true ∗ Φ false) :=
  bigSep_univ_eq_bigSepL [true, false] (by decide) (by decide) Φ

/-! ## The handshakes -/

/-- What a device brings to a handshake: its token at each neighbour, its credits, its cell; for the entry also its own landing slots. -/
def Shake (c : Dev nD) (b : Bool) : sProp 𝕄 :=
  iprop(dutyTok ER (cell (dst false c) (.inl b)) 0 true ∗ dutyTok ER (cell (dst true c) (.inl b)) 0 false
    ∗ cred (tallyAt (cell c (.inl b)) () 2) ∗ atPos ER (cell c (.inl b)) 0 ∅ 0)

/-- A transfer before the handshake: both its duties and its send cell. -/
def Pend (c : Dev nD) (k : Slot) : sProp 𝕄 :=
  iprop(dutyTok ER (cell c (.inr (false, k))) 0 false ∗ dutyTok ER (cell (dst k.1 c) (.inr (true, k))) 0 false
    ∗ atPos ER (cell c (.inr (false, k))) 0 ∅ 0)

omit [FloatOps F] in
/-- With the neighbours' landing slots every transfer can be done. -/
theorem todo_intro (c : Dev nD) :
    iprop((bigSep Finset.univ fun k => Pend (F := F) c k) ∗ landDir (dst true c) true ∗ landDir (dst false c) false) ⊢ bigSep Finset.univ fun k => Todo (F := F) c k := by
  have h : bigSep Finset.univ (fun k : Slot => landAny (F := F) (dst k.1 c) k) = iprop(landDir (dst true c) true ∗ landDir (dst false c) false) := by
    rw [bigSep_univ_prod, bool_eq]; rfl
  rw [← h, ← bigSep_sep']
  refine bigSep_mono fun k _ => ?_
  unfold Pend Todo
  show iprop((dutyTok ER (cell c (.inr (false, k))) 0 false ∗ dutyTok ER (cell (dst k.1 c) (.inr (true, k))) 0 false
      ∗ atPos ER (cell c (.inr (false, k))) 0 ∅ 0) ∗ landAny (dst k.1 c) k)
    ⊢ iprop(dutyTok ER (cell c (.inr (false, k))) 0 false ∗ dutyTok ER (cell (dst k.1 c) (.inr (true, k))) 0 false ∗ landAny (dst k.1 c) k
      ∗ atPos ER (cell c (.inr (false, k))) 0 ∅ 0)
  iintro ⟨⟨H1, H2, H3⟩, H4⟩
  isplitl [H1]; · iexact H1
  isplitl [H2]; · iexact H2
  isplitl [H4]; · iexact H4
  iexact H3

variable (K : Dev nD × Cix → ℕ) (c : Dev nD)

/-- The two signals of a handshake hand a device's own landing slots to its neighbours (at the entry); stated as what the duty there pays. -/
theorem pay_entry (d : Bool) : pay m ρ (dst d c) (.inl false) (!d) = landDir (F := F) c (!d) := by
  show landDir (dst (!d) (dst d c)) (!d) = _
  rw [dst_dst']

/-- Part 1: the entry handshake. Own landing slots go to the neighbours, theirs come. -/
theorem part1_walk {Q : _ → sProp (MT nD τ sig Unit (Elt F) ℕ UU ℕ)} :
    iprop(records m ρ K ∗ levAts L lv ∗ Owes c 0 ∗ Shake c false ∗ landDir c true ∗ landDir c false)
      ⊢ iprop((∀ r, (⌜r.1 = c⌝ ∗ Owes c 2 ∗ landDir (dst true c) true ∗ landDir (dst false c) false ∗ semVal (cell c (.inl false)) 0) -∗ Q r)
        -∗ wp frame (wpE (defs₀ (F := F)) 𝒱₀ (c : Thread nD τ) none) Set.univ (k0_part1 xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0) Q) := by
  rw [k0_part1_eq_skeleton]; unfold k0_part1_skel
  simp only [semSignalWord, semWaitWord, Prog.lift, Prog.bind_op, Prog.bind_ret, Prog.pure_eq_ret, wp_deviceId]
  unfold Shake
  iintro ⟨#HR, #Hlev, HO, ⟨Ht0, Ht1, Hc, Ha⟩, Hl1, Hl0⟩ Hk
  have p0 := pay_entry (F := F) m ρ c false
  have p1 := pay_entry (F := F) m ρ c true
  iapply (step_signal m ρ K c 0 false false rfl (dev1_eq c) rfl rfl) $$ [HO Ht0 Hl1]
  · isplitr; · iexact HR
    isplitl [HO]; · iexact HO
    isplitl [Ht0]; · iexact Ht0
    rw [p0]; iexact Hl1
  iintro HO
  iapply (step_signal m ρ K c 1 true false rfl (dev2_eq c) rfl rfl) $$ [HO Ht1 Hl0]
  · isplitr; · iexact HR
    isplitl [HO]; · iexact HO
    isplitl [Ht1]; · iexact Ht1
    rw [p1]; iexact Hl0
  iintro HO
  iapply (step_wait m ρ K c 2 (.inl false) (by decide) (a := 2)
    (fun Kt => wpE_semWait_eq 𝒱₀ (c : Thread nD τ) none Set.univ Kt) rfl) $$ [HO Hc Ha]
  · isplitr; · iexact HR
    isplitr; · iexact Hlev
    isplitl [HO]; · iexact HO
    isplitl [Hc]; · iexact Hc
    iexact Ha
  iintro ⟨HO, Hp, Hz⟩
  ihave Hp' := (show (bigSep (duties (.inl false)) fun d => pay m ρ c (.inl false) d) ⊢ iprop(landDir (dst true c) true ∗ landDir (dst false c) false) from
    Entails.of_eq (bool_eq fun d => pay m ρ c (.inl false) d)) $$ Hp
  icases Hp' with ⟨Hp1, Hp0⟩
  rw [wp_ret]; imodintro
  iapply Hk $$ %_
  isplitr; · ipureintro; rfl
  isplitl [HO]; · iexact HO
  isplitl [Hp1]; · iexact Hp1
  isplitl [Hp0]; · iexact Hp0
  iexact Hz

/-- What a quarter of the result holds at the end. -/
def outJ (j : Fin 4) (c : Dev nD) : S512x512.Idx → Elt F .f32 := match j with
  | 0 => outQ m ρ true 0 c
  | 1 => outQ m ρ true 1 c
  | 2 => outQ m ρ false 0 c
  | 3 => outQ m ρ false 1 c

set_option maxRecDepth 8000 in
/-- The program: from the staged operands, the buffers at any contents and everything the transfers need, to the result's four
    quarters, with every slot back and every cell at zero. -/
theorem program_walk {Q : PUnit → sProp (MT nD τ sig Unit (Elt F) ℕ UU ℕ)} :
    iprop(records m ρ K ∗ levAts L lv ∗ Owes c 0 ∗ (Shake c false ∗ landDir c true ∗ landDir c false) ∗ Shake c true
        ∗ xAt m ρ c ∗ wAt m ρ c ∗ ownAny c ∗ (bigSep Finset.univ fun j => outAny c j)
        ∗ (bigSep Finset.univ fun k => srcAny c k) ∗ (bigSep Finset.univ fun k => Pend c k) ∗ (bigSep Finset.univ fun k => Await c k)
        ∗ bigSep Finset.univ fun k => keptAny c k)
      ⊢ iprop(((Owes c 16 ∗ (semVal (cell c (.inl false)) 0 ∗ semVal (cell c (.inl true)) 0)
          ∗ xAt m ρ c ∗ wAt m ρ c ∗ ownAny c ∗ (bigSep Finset.univ fun j => outAt c j (outJ m ρ j c))
          ∗ (bigSep Finset.univ fun k => Done c k) ∗ (bigSep Finset.univ fun k => Arrived m ρ c k)
          ∗ bigSep Finset.univ fun k => keptAny c k) -∗ Q ⟨⟩)
        -∗ wp frame (wpE (defs₀ (F := F)) 𝒱₀ (c : Thread nD τ) none) Set.univ (cc0_body xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0) Q) := by
  rw [cc0_body_eq_skeleton]; unfold cc0_body_skel
  rw [k0_part29_eq_skeleton]; unfold k0_part29_skel
  simp only [slots_eq (fun k => srcAny (F := F) c k), slots_eq (fun k => Await (F := F) c k), slots_eq (fun k => Done (F := F) c k),
    slots_eq (fun k => Arrived (F := F) m ρ c k), kepts_eq, cols_eq]
  iintro ⟨#HR, #Hlev, HO, HE, HX', HX, HW, HN, ⟨HU0, HU1, HU2, HU3⟩, ⟨HSt00, HSf00, HSt01, HSf01, HSt10, HSf10, HSt11, HSf11, HSt20, HSf20, HSt21, HSf21⟩, HPend, ⟨HAt00, HAf00, HAt01, HAf01, HAt10, HAf10, HAt11, HAf11, HAt20, HAf20, HAt21, HAf21⟩, ⟨HPt00, HPt01, HPt10, HPt11, HPf00, HPf01, HPf10, HPf11⟩⟩ Hk
  simp only [wp_bind]
  iapply (part1_walk m ρ K c) $$ [HO HE]
  · icases HE with ⟨HE, Hl1, Hl0⟩
    isplitr; · iexact HR
    isplitr; · iexact Hlev
    isplitl [HO]; · iexact HO
    isplitl [HE]; · iexact HE
    isplitl [Hl1]; · iexact Hl1
    iexact Hl0
  iintro %r ⟨%hr, HO, Hl1, Hl0, Hz0⟩
  obtain ⟨c', v2, v14, v25⟩ := r
  obtain rfl : c = c' := hr.symm
  ihave HT := ((todo_intro (F := F) c).trans (Entails.of_eq (slots_eq _))) $$ [HPend Hl1 Hl0]
  · isplitl [HPend]; · iexact HPend
    isplitl [Hl1]; · iexact Hl1
    iexact Hl0
  icases HT with ⟨HTt00, HTf00, HTt01, HTf01, HTt10, HTf10, HTt11, HTf11, HTt20, HTf20, HTt21, HTf21⟩
  iapply (part2_walk m ρ c _ _) $$ [HX HW HSt00]
  · isplitl [HX]; · iexact HX
    isplitl [HW]; · iexact HW
    iexact HSt00
  iintro ⟨HX, HW, HSt00⟩
  iapply (part3_walk m ρ K c _ _) $$ [HO HTt00 HSt00 HX HW HSf00]
  · isplitr; · iexact HR
    isplitl [HO]; · iexact HO
    isplitl [HTt00]; · iexact HTt00
    isplitl [HSt00]; · iexact HSt00
    isplitl [HX]; · iexact HX
    isplitl [HW]; · iexact HW
    iexact HSf00
  iintro %r ⟨HO, HFt00, HX, HW, HSf00⟩
  iapply (part4_walk m ρ K c _ _ _) $$ [HO HTf00 HSf00 HX HW HSt01]
  · isplitr; · iexact HR
    isplitl [HO]; · iexact HO
    isplitl [HTf00]; · iexact HTf00
    isplitl [HSf00]; · iexact HSf00
    isplitl [HX]; · iexact HX
    isplitl [HW]; · iexact HW
    iexact HSt01
  iintro ⟨HO, HFf00, HX, HW, HSt01⟩
  iapply (part5_walk m ρ K c _ _) $$ [HO HTt01 HSt01 HX HW HSf01]
  · isplitr; · iexact HR
    isplitl [HO]; · iexact HO
    isplitl [HTt01]; · iexact HTt01
    isplitl [HSt01]; · iexact HSt01
    isplitl [HX]; · iexact HX
    isplitl [HW]; · iexact HW
    iexact HSf01
  iintro %r ⟨%hr, HO, HFt01, HX, HW, HSf01⟩
  obtain ⟨v151, v152⟩ := r
  obtain rfl : v151 = _ := hr
  iapply (part6_walk m ρ K c _ _ _) $$ [HSf01 HO HTf01 HX HW]
  · isplitr; · iexact HR
    isplitl [HSf01]; · iexact HSf01
    isplitl [HO]; · iexact HO
    isplitl [HTf01]; · iexact HTf01
    isplitl [HX]; · iexact HX
    iexact HW
  iintro %r ⟨%hr, HO, HFf01, HX, HW⟩
  subst hr
  iapply (part7_walk m ρ c _) $$ [HPt00 HX HW HPf00]
  · isplitl [HPt00]; · iexact HPt00
    isplitl [HX]; · iexact HX
    isplitl [HW]; · iexact HW
    iexact HPf00
  iintro %r ⟨HPt00, HX, HW, HPf00⟩
  iapply (part8_walk m ρ c _ _ _ _ _) $$ [HX HW HPt01]
  · isplitl [HX]; · iexact HX
    isplitl [HW]; · iexact HW
    iexact HPt01
  iintro %r ⟨%hr, HX, HW, HPt01⟩
  subst hr
  iapply (part9_walk m ρ c _) $$ [HW HPf01 HX HPt10]
  · isplitl [HW]; · iexact HW
    isplitl [HPf01]; · iexact HPf01
    isplitl [HX]; · iexact HX
    iexact HPt10
  iintro %r ⟨HW, HPf01, HX, HPt10⟩
  iapply (part10_walk m ρ c _ _ _ _) $$ [HX HW HPf10]
  · isplitl [HX]; · iexact HX
    isplitl [HW]; · iexact HW
    iexact HPf10
  iintro ⟨HX, HW, HPf10⟩
  iapply (part11_walk m ρ c _) $$ [HX HW HPt11 HPf11]
  · isplitl [HX]; · iexact HX
    isplitl [HW]; · iexact HW
    isplitl [HPt11]; · iexact HPt11
    iexact HPf11
  iintro ⟨HX, HW, HPt11, HPf11⟩
  iapply (part12_walk m ρ K c _) $$ [HX HW HN HO HAt00 HPt00 HSt10]
  · isplitr; · iexact HR
    isplitr; · iexact Hlev
    isplitl [HX]; · iexact HX
    isplitl [HW]; · iexact HW
    isplitl [HN]; · iexact HN
    isplitl [HO]; · iexact HO
    isplitl [HAt00]; · iexact HAt00
    isplitl [HPt00]; · iexact HPt00
    iexact HSt10
  iintro ⟨HX, HW, HN, HO, HLt00, HPt00, HSt10⟩
  iapply (part13_walk m ρ K c _ _) $$ [HO HTt10 HSt10 HAf00 HPf00]
  · isplitr; · iexact HR
    isplitr; · iexact Hlev
    isplitl [HO]; · iexact HO
    isplitl [HTt10]; · iexact HTt10
    isplitl [HSt10]; · iexact HSt10
    isplitl [HAf00]; · iexact HAf00
    iexact HPf00
  iintro %r ⟨%hr, HO, HFt10, HLf00, HPf00⟩
  subst hr
  iapply (part14_walk m ρ K c _ _) $$ [HSf10 HO HTf10 HAt01]
  · isplitr; · iexact HR
    isplitr; · iexact Hlev
    isplitl [HSf10]; · iexact HSf10
    isplitl [HO]; · iexact HO
    isplitl [HTf10]; · iexact HTf10
    iexact HAt01
  iintro ⟨HO, HFf10, HLt01⟩
  iapply (part15_walk m ρ K c _ _) $$ [HPt01 HLt01 HSt11 HO HTt11]
  · isplitr; · iexact HR
    isplitl [HPt01]; · iexact HPt01
    isplitl [HLt01]; · iexact HLt01
    isplitl [HSt11]; · iexact HSt11
    isplitl [HO]; · iexact HO
    iexact HTt11
  iintro ⟨HPt01, HLt01, HO, HFt11⟩
  iapply (part16_walk m ρ K c _) $$ [HO HAf01 HPf01 HSf11 HTf11]
  · isplitr; · iexact HR
    isplitr; · iexact Hlev
    isplitl [HO]; · iexact HO
    isplitl [HAf01]; · iexact HAf01
    isplitl [HPf01]; · iexact HPf01
    isplitl [HSf11]; · iexact HSf11
    iexact HTf11
  iintro ⟨HO, HLf01, HPf01, HFf11⟩
  iapply (part17_walk m ρ K c _) $$ [HO HAt10 HPt10 HSt20]
  · isplitr; · iexact HR
    isplitr; · iexact Hlev
    isplitl [HO]; · iexact HO
    isplitl [HAt10]; · iexact HAt10
    isplitl [HPt10]; · iexact HPt10
    iexact HSt20
  iintro ⟨HO, HLt10, HPt10, HSt20⟩
  iapply (part18_walk m ρ K c _) $$ [HO HTt20 HSt20 HAf10 HPf10 HSf20]
  · isplitr; · iexact HR
    isplitr; · iexact Hlev
    isplitl [HO]; · iexact HO
    isplitl [HTt20]; · iexact HTt20
    isplitl [HSt20]; · iexact HSt20
    isplitl [HAf10]; · iexact HAf10
    isplitl [HPf10]; · iexact HPf10
    iexact HSf20
  iintro ⟨HO, HFt20, HLf10, HPf10, HSf20⟩
  iapply (part19_walk m ρ K c _ _) $$ [HO HTf20 HSf20 HAt11 HPt11]
  · isplitr; · iexact HR
    isplitr; · iexact Hlev
    isplitl [HO]; · iexact HO
    isplitl [HTf20]; · iexact HTf20
    isplitl [HSf20]; · iexact HSf20
    isplitl [HAt11]; · iexact HAt11
    iexact HPt11
  iintro %r ⟨%hr, HO, HFf20, HLt11, HPt11⟩
  subst hr
  iapply (part20_walk m ρ K c _ _) $$ [HSt21 HO HTt21 HAf11 HPf11]
  · isplitr; · iexact HR
    isplitr; · iexact Hlev
    isplitl [HSt21]; · iexact HSt21
    isplitl [HO]; · iexact HO
    isplitl [HTt21]; · iexact HTt21
    isplitl [HAf11]; · iexact HAf11
    iexact HPf11
  iintro %r ⟨%hr, HO, HFt21, HLf11, HPf11⟩
  subst hr
  iapply (part21_walk m ρ K c _ _) $$ [HLf11 HSf21 HO HTf21]
  · isplitr; · iexact HR
    isplitl [HLf11]; · iexact HLf11
    isplitl [HSf21]; · iexact HSf21
    isplitl [HO]; · iexact HO
    iexact HTf21
  iintro ⟨HLf11, HO, HFf21⟩
  iapply (part22_walk m ρ K c _) $$ [HO HAt20 HN HU0 HAf20]
  · isplitr; · iexact HR
    isplitr; · iexact Hlev
    isplitl [HO]; · iexact HO
    isplitl [HAt20]; · iexact HAt20
    isplitl [HN]; · iexact HN
    isplitl [HU0]; · iexact HU0
    iexact HAf20
  iintro ⟨HO, HLt20, HN, HU0, HLf20⟩
  iapply (part23_walk m ρ K c _) $$ [HN HLf20 HU2 HO HAt21]
  · isplitr; · iexact HR
    isplitr; · iexact Hlev
    isplitl [HN]; · iexact HN
    isplitl [HLf20]; · iexact HLf20
    isplitl [HU2]; · iexact HU2
    isplitl [HO]; · iexact HO
    iexact HAt21
  iintro %r ⟨%hr, HN, HLf20, HU2, HO, HLt21⟩
  subst hr
  iapply (part24_walk m ρ K c _) $$ [HLt21 HU1 HO HAf21 HN]
  · isplitr; · iexact HR
    isplitr; · iexact Hlev
    isplitl [HLt21]; · iexact HLt21
    isplitl [HU1]; · iexact HU1
    isplitl [HO]; · iexact HO
    isplitl [HAf21]; · iexact HAf21
    iexact HN
  iintro %r ⟨%hr, HLt21, HU1, HO, HLf21, HN⟩
  subst hr
  iapply (part25_walk m ρ K c) $$ [HU3 HO HFt00]
  · isplitr; · iexact HR
    isplitr; · iexact Hlev
    isplitl [HU3]; · iexact HU3
    isplitl [HO]; · iexact HO
    iexact HFt00
  iintro ⟨HU3, HO, HDt00⟩
  iapply (part26_walk m ρ K c) $$ [HO HFf00 HFt01 HFf01]
  · isplitr; · iexact HR
    isplitr; · iexact Hlev
    isplitl [HO]; · iexact HO
    isplitl [HFf00]; · iexact HFf00
    isplitl [HFt01]; · iexact HFt01
    iexact HFf01
  iintro ⟨HO, HDf00, HDt01, HDf01⟩
  iapply (part27_walk m ρ K c) $$ [HO HFt10 HFf10 HFt11]
  · isplitr; · iexact HR
    isplitr; · iexact Hlev
    isplitl [HO]; · iexact HO
    isplitl [HFt10]; · iexact HFt10
    isplitl [HFf10]; · iexact HFf10
    iexact HFt11
  iintro ⟨HO, HDt10, HDf10, HDt11⟩
  iapply (part28_walk m ρ K c) $$ [HO HFf11 HFt20 HFf20]
  · isplitr; · iexact HR
    isplitr; · iexact Hlev
    isplitl [HO]; · iexact HO
    isplitl [HFf11]; · iexact HFf11
    isplitl [HFt20]; · iexact HFt20
    iexact HFf20
  iintro ⟨HO, HDf11, HDt20, HDf20⟩
  simp only [semSignalWord, semWaitWord, Prog.lift, Prog.bind_op, Prog.bind_ret, Prog.pure_eq_ret]
  iapply (go_back m ρ K c 14 (true, 2, 1) (by decide)) $$ [HO HFt21]
  · isplitr; · iexact HR
    isplitr; · iexact Hlev
    isplitl [HO]; · iexact HO
    iexact HFt21
  iintro ⟨HO, HDt21⟩
  rw [wp_ret]; imodintro
  iapply (go_back m ρ K c 14 (false, 2, 1) (by decide)) $$ [HO HFf21]
  · isplitr; · iexact HR
    isplitr; · iexact Hlev
    isplitl [HO]; · iexact HO
    iexact HFf21
  iintro ⟨HO, HDf21⟩
  rw [wp_ret]; imodintro
  unfold Shake
  icases HX' with ⟨Ht0, Ht1, Hc, Ha⟩
  iapply (step_signal m ρ K c 14 false true rfl (dev15_eq c) rfl rfl) $$ [HO Ht0]
  · isplitr; · iexact HR
    isplitl [HO]; · iexact HO
    isplitl [Ht0]; · iexact Ht0
    iempintro
  iintro HO
  rw [wp_ret]; imodintro
  rw [wp_ret]; imodintro
  iapply (step_signal m ρ K c 15 true true rfl (dev16_eq c) rfl rfl) $$ [HO Ht1]
  · isplitr; · iexact HR
    isplitl [HO]; · iexact HO
    isplitl [Ht1]; · iexact Ht1
    iempintro
  iintro HO
  rw [wp_ret]; imodintro
  iapply (step_wait m ρ K c 16 (.inl true) (by decide) (a := 2)
    (fun Kt => wpE_semWait_eq 𝒱₀ (c : Thread nD τ) none Set.univ Kt) rfl) $$ [HO Hc Ha]
  · isplitr; · iexact HR
    isplitr; · iexact Hlev
    isplitl [HO]; · iexact HO
    isplitl [Hc]; · iexact Hc
    iexact Ha
  iintro ⟨HO, -, Hz1⟩
  rw [wp_ret]; imodintro
  rw [wp_ret]; imodintro
  iapply Hk
  isplitl [HO]; · iexact HO
  isplitl [Hz0 Hz1]
  · isplitl [Hz0]
    · iexact Hz0
    iexact Hz1
  isplitl [HX]; · iexact HX
  isplitl [HW]; · iexact HW
  isplitl [HN]; · unfold ownAny; iexists _; iexact HN
  isplitl [HU0 HU1 HU2 HU3]
  · isplitl [HU0]; · iexact HU0
    isplitl [HU1]; · iexact HU1
    isplitl [HU2]; · iexact HU2
    iexact HU3
  isplitl [HDt00 HDf00 HDt01 HDf01 HDt10 HDf10 HDt11 HDf11 HDt20 HDf20 HDt21 HDf21]
  · isplitl [HDt00]; · iexact HDt00
    isplitl [HDf00]; · iexact HDf00
    isplitl [HDt01]; · iexact HDt01
    isplitl [HDf01]; · iexact HDf01
    isplitl [HDt10]; · iexact HDt10
    isplitl [HDf10]; · iexact HDf10
    isplitl [HDt11]; · iexact HDt11
    isplitl [HDf11]; · iexact HDf11
    isplitl [HDt20]; · iexact HDt20
    isplitl [HDf20]; · iexact HDf20
    isplitl [HDt21]; · iexact HDt21
    iexact HDf21
  isplitl [HLt00 HLf00 HLt01 HLf01 HLt10 HLf10 HLt11 HLf11 HLt20 HLf20 HLt21 HLf21]
  · isplitl [HLt00]; · iexact HLt00
    isplitl [HLf00]; · iexact HLf00
    isplitl [HLt01]; · iexact HLt01
    isplitl [HLf01]; · iexact HLf01
    isplitl [HLt10]; · iexact HLt10
    isplitl [HLf10]; · iexact HLf10
    isplitl [HLt11]; · iexact HLt11
    isplitl [HLf11]; · iexact HLf11
    isplitl [HLt20]; · iexact HLt20
    isplitl [HLf20]; · iexact HLf20
    isplitl [HLt21]; · iexact HLt21
    iexact HLf21
  unfold keptAny
  isplitl [HPt00]; · iexists _; iexact HPt00
  isplitl [HPt01]; · iexists _; iexact HPt01
  isplitl [HPt10]; · iexists _; iexact HPt10
  isplitl [HPt11]; · iexists _; iexact HPt11
  isplitl [HPf00]; · iexists _; iexact HPf00
  isplitl [HPf01]; · iexists _; iexact HPf01
  isplitl [HPf10]; · iexists _; iexact HPf10
  iexists _; iexact HPf11

end Cert.KernelIdealProof

end
-- ==== Proof.KernelIdealBody.lean ====
/-
The program of one device between what its launch hands it and what it leaves.

The buffers are handed over whole and are left whole; inside, the program works on their parts. This module
splits and rejoins them, puts the four quarters of the result together, and states what a device starts from,
what it ends with, and that its program goes from one to the other.
-/
module

public import proofs.«01_k».proof.Proof.KernelIdealWalk
public import proofs.«01_k».proof.Proof.Gen.KernelIdeal.Points

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The parts of the buffers -/

/-- Two slots of a buffer share no element. -/
theorem slot_disj (k k' : Fin 3 × Fin 2) (h : k ≠ k') : Disjoint (slotRect k).set (slotRect k').set := by
  obtain ⟨s, q⟩ := k; obtain ⟨s', q'⟩ := k'
  by_cases hs : s.val = s'.val
  · have hq : q.val ≠ q'.val := fun hq => h (by rw [Fin.ext hs, Fin.ext hq])
    exact Rect.unit_disjoint (1 : Fin 4) (show q.val + 1 ≤ q'.val ∨ q'.val + 1 ≤ q.val by omega)
  · exact Rect.unit_disjoint (0 : Fin 4) (show s.val + 1 ≤ s'.val ∨ s'.val + 1 ≤ s.val by omega)

/-- The slots make up the buffer. -/
theorem slot_cov : (Finset.univ : Finset (Fin 3 × Fin 2)).biUnion (fun k => (slotRect k).set) = Finset.univ := by
  refine Finset.eq_univ_iff_forall.mpr fun i => Finset.mem_biUnion.mpr
    ⟨(⟨(i 0).val, (i 0).isLt⟩, ⟨(i 1).val, (i 1).isLt⟩), Finset.mem_univ _, Rect.mem_set_unit.mpr fun a => ?_⟩
  have h2 : (i 2).val < 512 := (i 2).isLt
  have h3 : (i 3).val < 512 := (i 3).isLt
  match a with
  | ⟨0, _⟩ => exact ⟨le_rfl, Nat.lt_succ_self _⟩
  | ⟨1, _⟩ => exact ⟨le_rfl, Nat.lt_succ_self _⟩
  | ⟨2, _⟩ => exact ⟨Nat.zero_le _, by show (i 2).val < 0 + 512; omega⟩
  | ⟨3, _⟩ => exact ⟨Nat.zero_le _, by show (i 3).val < 0 + 512; omega⟩

/-- Two kept products share no element of their buffer. -/
theorem kept_disj (k k' : Fin 2 × Fin 2) (h : k ≠ k') : Disjoint (keptRect k).set (keptRect k').set := by
  obtain ⟨s, q⟩ := k; obtain ⟨s', q'⟩ := k'
  by_cases hs : s.val = s'.val
  · have hq : q.val ≠ q'.val := fun hq => h (by rw [Fin.ext hs, Fin.ext hq])
    exact Rect.unit_disjoint (1 : Fin 4) (show q.val + 1 ≤ q'.val ∨ q'.val + 1 ≤ q.val by omega)
  · exact Rect.unit_disjoint (0 : Fin 4) (show s.val + 1 ≤ s'.val ∨ s'.val + 1 ≤ s.val by omega)

/-- The kept products make up their buffer. -/
theorem kept_cov : (Finset.univ : Finset (Fin 2 × Fin 2)).biUnion (fun k => (keptRect k).set) = Finset.univ := by
  refine Finset.eq_univ_iff_forall.mpr fun i => Finset.mem_biUnion.mpr
    ⟨(⟨(i 0).val, (i 0).isLt⟩, ⟨(i 1).val, (i 1).isLt⟩), Finset.mem_univ _, Rect.mem_set_unit.mpr fun a => ?_⟩
  have h2 : (i 2).val < 512 := (i 2).isLt
  have h3 : (i 3).val < 512 := (i 3).isLt
  match a with
  | ⟨0, _⟩ => exact ⟨le_rfl, Nat.lt_succ_self _⟩
  | ⟨1, _⟩ => exact ⟨le_rfl, Nat.lt_succ_self _⟩
  | ⟨2, _⟩ => exact ⟨Nat.zero_le _, by show (i 2).val < 0 + 512; omega⟩
  | ⟨3, _⟩ => exact ⟨Nat.zero_le _, by show (i 3).val < 0 + 512; omega⟩

/-- Two quarters of the columns share no element. -/
theorem col_disj (j j' : Fin 4) (h : j ≠ j') : Disjoint (colRect j).set (colRect j').set := by
  have hj : j.val ≠ j'.val := fun hj => h (Fin.ext hj)
  exact Rect.unit_disjoint (1 : Fin 2) (show 512 * j.val + 512 ≤ 512 * j'.val ∨ 512 * j'.val + 512 ≤ 512 * j.val by omega)

/-- The quarters make up all columns. -/
theorem col_cov : (Finset.univ : Finset (Fin 4)).biUnion (fun j => (colRect j).set) = Finset.univ := by
  refine Finset.eq_univ_iff_forall.mpr fun i => ?_
  have h0 : (i 0).val < 512 := (i 0).isLt
  have h1 : (i 1).val < 2048 := (i 1).isLt
  refine Finset.mem_biUnion.mpr ⟨⟨(i 1).val / 512, by omega⟩, Finset.mem_univ _, Rect.mem_set_unit.mpr fun a => ?_⟩
  match a with
  | ⟨0, _⟩ => exact ⟨Nat.zero_le _, by show (i 0).val < 0 + 512; omega⟩
  | ⟨1, _⟩ =>
    constructor
    · show 512 * ((i 1).val / 512) ≤ (i 1).val; omega
    · show (i 1).val < 512 * ((i 1).val / 512) + 512; omega

instance contents_inhabited (ℓ : Loc nD τ sig) : Inhabited (ℓ.2.ty.Contents (Elt F)) := ⟨fun _ => default⟩

/-- A buffer of the device whole at some contents. -/
def bufAny (c : Dev nD) (b : Ref sig .tc) : sProp 𝕄 := iprop(∃ f : Buf (Elt F) ((c : Thread nD τ).loc b), ((c : Thread nD τ).loc b) ↦{fullShare} f)

/-- A direction's source buffer is its source slots, its landing buffer its landing slots, its kept-product buffer its kept products. -/
theorem src_split (c : Dev nD) (d : Bool) : bufAny (F := F) c (sBuf d) ⊢ bigSep Finset.univ fun k : Fin 3 × Fin 2 => srcAny c (d, k) := by
  cases d
  · exact Owned.split_any (c : Thread nD τ) cc0_scratch1 (T := Fin 3 × Fin 2) slotRect (fun _ _ => rfl) slot_disj slot_cov
  · exact Owned.split_any (c : Thread nD τ) cc0_scratch0 (T := Fin 3 × Fin 2) slotRect (fun _ _ => rfl) slot_disj slot_cov
/-- All source slots of a direction give their buffer back. -/
theorem src_join (c : Dev nD) (d : Bool) : (bigSep Finset.univ fun k : Fin 3 × Fin 2 => srcAny c (d, k)) ⊢ bufAny (F := F) c (sBuf d) := by
  cases d
  · exact Owned.join_any (c : Thread nD τ) cc0_scratch1 (T := Fin 3 × Fin 2) slotRect (fun _ _ => rfl) slot_disj slot_cov
  · exact Owned.join_any (c : Thread nD τ) cc0_scratch0 (T := Fin 3 × Fin 2) slotRect (fun _ _ => rfl) slot_disj slot_cov
/-- A landing buffer is its slots. -/
theorem land_split (c : Dev nD) (d : Bool) : bufAny (F := F) c (lBuf d) ⊢ landDir c d := by
  cases d
  · exact Owned.split_any (c : Thread nD τ) cc0_scratch3 (T := Fin 3 × Fin 2) slotRect (fun _ _ => rfl) slot_disj slot_cov
  · exact Owned.split_any (c : Thread nD τ) cc0_scratch2 (T := Fin 3 × Fin 2) slotRect (fun _ _ => rfl) slot_disj slot_cov
/-- All landing slots of a direction give their buffer back. -/
theorem land_join (c : Dev nD) (d : Bool) : landDir c d ⊢ bufAny (F := F) c (lBuf d) := by
  cases d
  · exact Owned.join_any (c : Thread nD τ) cc0_scratch3 (T := Fin 3 × Fin 2) slotRect (fun _ _ => rfl) slot_disj slot_cov
  · exact Owned.join_any (c : Thread nD τ) cc0_scratch2 (T := Fin 3 × Fin 2) slotRect (fun _ _ => rfl) slot_disj slot_cov
/-- A buffer of kept products is its pieces. -/
theorem kept_split (c : Dev nD) (d : Bool) : bufAny (F := F) c (pBuf d) ⊢ bigSep Finset.univ fun k : Fin 2 × Fin 2 => keptAny c (d, k) := by
  cases d
  · exact Owned.split_any (c : Thread nD τ) cc0_scratch5 (T := Fin 2 × Fin 2) keptRect (fun _ _ => rfl) kept_disj kept_cov
  · exact Owned.split_any (c : Thread nD τ) cc0_scratch4 (T := Fin 2 × Fin 2) keptRect (fun _ _ => rfl) kept_disj kept_cov
/-- All kept products of a direction give their buffer back. -/
theorem kept_join (c : Dev nD) (d : Bool) : (bigSep Finset.univ fun k : Fin 2 × Fin 2 => keptAny c (d, k)) ⊢ bufAny (F := F) c (pBuf d) := by
  cases d
  · exact Owned.join_any (c : Thread nD τ) cc0_scratch5 (T := Fin 2 × Fin 2) keptRect (fun _ _ => rfl) kept_disj kept_cov
  · exact Owned.join_any (c : Thread nD τ) cc0_scratch4 (T := Fin 2 × Fin 2) keptRect (fun _ _ => rfl) kept_disj kept_cov
/-- The buffer of the own product, as a piece. -/
theorem own_split (c : Dev nD) : bufAny (F := F) c cc0_scratch6 ⊢ ownAny c := by
  unfold bufAny ownAny
  iintro ⟨%f, H⟩; iexists f
  iapply (Entails.of_eq (owns_whole (c : Thread nD τ) cc0_scratch6 fullShare f).symm); iexact H
/-- The own product's piece gives its buffer back. -/
theorem own_join (c : Dev nD) : ownAny c ⊢ bufAny (F := F) c cc0_scratch6 := by
  unfold bufAny ownAny
  iintro ⟨%f, H⟩; iexists f
  iapply (Entails.of_eq (owns_whole (c : Thread nD τ) cc0_scratch6 fullShare f)); iexact H

/-- The device's own buffers, part by part, at any contents. -/
def Parts (c : Dev nD) : sProp 𝕄 :=
  iprop((bigSep Finset.univ fun k => srcAny c k) ∗ (landDir c true ∗ landDir c false) ∗ (bigSep Finset.univ fun k => keptAny c k) ∗ ownAny c)
/-- The same, buffer by buffer. -/
def Bufs (c : Dev nD) : sProp 𝕄 :=
  iprop(bufAny c cc0_scratch0 ∗ bufAny c cc0_scratch1 ∗ bufAny c cc0_scratch2 ∗ bufAny c cc0_scratch3 ∗ bufAny c cc0_scratch4
    ∗ bufAny c cc0_scratch5 ∗ bufAny c cc0_scratch6)

/-- A device's buffers, split into all the pieces the walk works on. -/
theorem parts_of_bufs (c : Dev nD) : Bufs (F := F) c ⊢ Parts c := by
  unfold Bufs Parts
  rw [bigSep_univ_prod (fun k : Slot => srcAny (F := F) c k), bool_eq, bigSep_univ_prod (fun k : Kept => keptAny (F := F) c k), bool_eq]
  iintro ⟨H0, H1, H2, H3, H4, H5, H6⟩
  isplitl [H0 H1]
  · isplitl [H0]; · iapply (src_split c true); iexact H0
    iapply (src_split c false); iexact H1
  isplitl [H2 H3]
  · isplitl [H2]; · iapply (land_split c true); iexact H2
    iapply (land_split c false); iexact H3
  isplitl [H4 H5]
  · isplitl [H4]; · iapply (kept_split c true); iexact H4
    iapply (kept_split c false); iexact H5
  iapply (own_split c); iexact H6

/-- All the pieces give a device's buffers back. -/
theorem bufs_of_parts (c : Dev nD) : Parts c ⊢ Bufs (F := F) c := by
  unfold Bufs Parts
  rw [bigSep_univ_prod (fun k : Slot => srcAny (F := F) c k), bool_eq, bigSep_univ_prod (fun k : Kept => keptAny (F := F) c k), bool_eq]
  iintro ⟨⟨H0, H1⟩, ⟨H2, H3⟩, ⟨H4, H5⟩, H6⟩
  isplitl [H0]; · iapply (src_join c true); iexact H0
  isplitl [H1]; · iapply (src_join c false); iexact H1
  isplitl [H2]; · iapply (land_join c true); iexact H2
  isplitl [H3]; · iapply (land_join c false); iexact H3
  isplitl [H4]; · iapply (kept_join c true); iexact H4
  isplitl [H5]; · iapply (kept_join c false); iexact H5
  iapply (own_join c); iexact H6

/-! ## The result's quarters together -/

/-- Which quarter of the columns a place of the result is in, and where there. -/
def quarter (i : S512x2048.Idx) : Fin 4 := ⟨(i 1).val / 512, by have h : (i 1).val < 2048 := (i 1).isLt; omega⟩
def within (i : S512x2048.Idx) : S512x512.Idx := fun a => match a with
  | ⟨0, _⟩ => ⟨(i 0).val, (i 0).isLt⟩
  | ⟨1, _⟩ => ⟨(i 1).val % 512, Nat.mod_lt _ (by decide)⟩

/-- What a device's result holds in the end. -/
def outV (c : Dev nD) : S512x2048.Idx → Elt F .f32 := fun i => outJ m ρ (quarter i) c (within i)

/-- An element of quarter `j` lies in quarter `j`; -/
theorem quarter_emb (j : Fin 4) (x : S512x512.Idx) : quarter ((colRect j).emb x) = j := by
  have h : (x 1).val < 512 := (x 1).isLt
  apply Fin.ext
  show (512 * j.val + 1 * (x 1).val) / 512 = j.val
  omega
/-- its place there is what it was; -/
theorem within_emb (j : Fin 4) (x : S512x512.Idx) : within ((colRect j).emb x) = x := by
  funext a
  apply Fin.ext
  match a with
  | ⟨0, _⟩ => show 0 + 1 * (x 0).val = (x 0).val; omega
  | ⟨1, _⟩ =>
    have h : (x 1).val < 512 := (x 1).isLt
    show (512 * j.val + 1 * (x 1).val) % 512 = (x 1).val
    omega
/-- and the result holds that quarter's contents there. -/
theorem outV_emb (j : Fin 4) (c : Dev nD) (x : S512x512.Idx) : outV m ρ c ((colRect j).emb x) = outJ m ρ j c x := by
  unfold outV; rw [quarter_emb, within_emb]

/-- The result's buffer is its quarters. -/
theorem out_split (c : Dev nD) (X : S512x2048.Idx → Elt F .f32) : (owns (c : Thread nD τ) oM fullShare X : sProp 𝕄) ⊢ bigSep Finset.univ fun j => outAny c j := by
  refine (owns_rects (c : Thread nD τ) oM fullShare colRect (fun _ _ => rfl) col_disj col_cov X).trans (bigSep_mono fun j _ => ?_)
  show (owns (c : Thread nD τ) (oM.slice (colRect j) (fun _ => rfl)) fullShare (fun i => X ((colRect j).emb i)) : sProp 𝕄) ⊢ outAny c j
  unfold outAny outAt
  iintro H; iexists _; iexact H

/-- The four quarters, filled, give the result's buffer filled with `outV`. -/
theorem out_join (c : Dev nD) : (bigSep Finset.univ fun j => outAt c j (outJ m ρ j c)) ⊢ (owns (c : Thread nD τ) oM fullShare (outV m ρ c) : sProp 𝕄) := by
  refine (bigSep_mono fun j _ => ?_).trans (owns_of_rects (c : Thread nD τ) oM fullShare colRect (fun _ _ => rfl) col_disj col_cov (outV m ρ c))
  show outAt c j (outJ m ρ j c) ⊢ (owns (c : Thread nD τ) (oM.slice (colRect j) (fun _ => rfl)) fullShare (fun i => outV m ρ c ((colRect j).emb i)) : sProp 𝕄)
  unfold outAt
  rw [show (fun i => outV m ρ c ((colRect j).emb i)) = outJ m ρ j c from funext fun x => outV_emb m ρ j c x]

/-! ## What a device starts from and what it ends with -/

/-- The kernel's own semaphores: the exit handshake's, and a send and a receive one per slot. -/
abbrev OwnIx : Type := Unit ⊕ (Bool × Slot)
def ownCix : OwnIx → Cix
  | .inl _ => .inl true
  | .inr k => .inr k
def osem (i : OwnIx) : SemLoc sig := csem (ownCix i)

/-- The tokens of a device's own cells: which handshake and which of its two duties, or which transfer cell. -/
abbrev Tok : Type := (Bool × Bool) ⊕ (Bool × Slot)
def tokOf (c : Dev nD) : Tok → GSem nD τ sig × ℕ × Bool
  | .inl (b, d) => (cell c (.inl b), 0, d)
  | .inr i => (cell c (.inr i), 0, false)
/-- From which device a token comes to the device that pays with it. -/
def turn : Tok → (Dev nD ≃ Dev nD)
  | .inl (_, d) => rot (!d)
  | .inr (false, _) => Equiv.refl _
  | .inr (true, k) => rot k.1

/-- A device's positions in its own cells and the tokens of the duties it pays. -/
def linear (c : Dev nD) : sProp 𝕄 :=
  iprop((bigSep Finset.univ fun i : Cix => atPos ER (cell c i) 0 ∅ 0)
    ∗ bigSep Finset.univ fun t : Tok => dutyTok ER (tokOf (turn t c) t).1 (tokOf (turn t c) t).2.1 (tokOf (turn t c) t).2.2)
/-- What others owe its cells. -/
def credits (c : Dev nD) : sProp 𝕄 :=
  iprop((bigSep Finset.univ fun b : Bool => cred (tallyAt (cell c (.inl b)) () 2)) ∗ bigSep Finset.univ fun k : Slot => cred (tallyAt (cell c (.inr (true, k))) () N))
def start (c : Dev nD) : sProp 𝕄 := iprop((∃ K, records m ρ K ∗ linear c) ∗ credits c ∗ levAts L lv)

def Φ₀ (c : Dev nD) : sProp 𝕄 := iprop(start m ρ c ∗ Parts c)
/-- In the end the buffers are there at any contents and every semaphore is at zero. -/
def Φ₁ (c : Dev nD) : sProp 𝕄 :=
  iprop(Parts c ∗ semVal (cell c (.inl false)) 0 ∗ semVal (cell c (.inl true)) 0
    ∗ (bigSep Finset.univ fun k : Slot => semVal (cell c (.inr (true, k))) 0) ∗ bigSep Finset.univ fun k : Slot => semVal (cell c (.inr (false, k))) 0)

omit [FloatOps F] in
/-- All cells: the handshakes', the receive and the send cells. -/
theorem cells_eq (Φ : Cix → sProp 𝕄) : bigSep Finset.univ Φ = iprop((Φ (.inl true) ∗ Φ (.inl false))
    ∗ (bigSep Finset.univ fun k => Φ (.inr (true, k))) ∗ bigSep Finset.univ fun k => Φ (.inr (false, k))) := by
  rw [bigSep_univ_sum, bool_eq, bigSep_univ_prod (fun i : Bool × Slot => Φ (.inr i)), bool_eq]; rfl
omit [FloatOps F] in
/-- All tokens likewise. -/
theorem toks_eq (Φ : Tok → sProp 𝕄) : bigSep Finset.univ Φ = iprop(((Φ (.inl (true, true)) ∗ Φ (.inl (true, false))) ∗ Φ (.inl (false, true)) ∗ Φ (.inl (false, false)))
    ∗ (bigSep Finset.univ fun k => Φ (.inr (true, k))) ∗ bigSep Finset.univ fun k => Φ (.inr (false, k))) := by
  rw [bigSep_univ_sum, bigSep_univ_prod (fun i : Bool × Bool => Φ (.inl i)), bool_eq, bool_eq, bool_eq,
    bigSep_univ_prod (fun i : Bool × Slot => Φ (.inr i)), bool_eq]; rfl

/-- Positions, tokens and credits, sorted as the program uses them. -/
theorem sorted (c : Dev nD) : iprop(linear (F := F) c ∗ credits c)
    ⊢ iprop(Shake c false ∗ Shake c true ∗ (bigSep Finset.univ fun k => Pend c k) ∗ bigSep Finset.univ fun k => Await c k) := by
  unfold linear credits Shake Pend Await
  rw [cells_eq, toks_eq, bool_eq]
  simp only [bigSep_sep']
  iintro ⟨⟨⟨⟨HaT, HaF⟩, HatR, HatS⟩, ⟨⟨HtTT, HtTF⟩, HtFT, HtFF⟩, HtR, HtS⟩, ⟨HcT, HcF⟩, Hcr⟩
  isplitl [HtFT HtFF HcF HaF]
  · isplitl [HtFT]; · iexact HtFT
    isplitl [HtFF]; · iexact HtFF
    isplitl [HcF]; · iexact HcF
    iexact HaF
  isplitl [HtTT HtTF HcT HaT]
  · isplitl [HtTT]; · iexact HtTT
    isplitl [HtTF]; · iexact HtTF
    isplitl [HcT]; · iexact HcT
    iexact HaT
  isplitl [HatS HtR HtS]
  · isplitl [HtS]; · iexact HtS
    isplitl [HtR]; · iexact HtR
    iexact HatS
  isplitl [Hcr]; · iexact Hcr
  iexact HatR

end Cert.KernelIdealProof

end
-- ==== Proof.KernelIdealRun.lean ====
/-
The launch of the four devices.

The invariants of all cells are set up at once, every device gets its positions, the tokens it pays with and the
credits others owe it, runs its program, and leaves its buffers and its semaphores at zero. The conclusion: from
any memory with zero counters every run of the four devices ends, the arguments unchanged, each result at what
`outV` says, every semaphore at zero.
-/
module

public import proofs.«01_k».proof.Proof.KernelIdealBody
public import Idealize.ShloMosaic.Lib.Quiescent
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The program as the launch runs it -/

/-- The launch has one grid point. -/
theorem cfg0_N : cfg0.N = 1 := N_0
def t₀ : Fin cfg0.N := ⟨0, by rw [cfg0_N]; decide⟩
/-- Every grid point is that one. -/
theorem fin_N (t : Fin cfg0.N) : t = t₀ := by
  obtain ⟨t, ht⟩ := t; have := cfg0_N; exact Fin.ext (by simp only [t₀]; omega)

/-- The arguments stay, the result ends at `outV`; a device starts owing all its credits and ends owing none. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outV m ρ c
  Φ t := match t with
    | ⟨0, _⟩ => Φ₀ m ρ c
    | ⟨_ + 1, _⟩ => Φ₁ c
  q _ := fullShare
  owed t := match t with
    | ⟨0, _⟩ => owed c 0
    | ⟨_ + 1, _⟩ => 0

/-- After all sixteen dues a device owes nothing. -/
theorem owed_end (c : Dev nD) : owed c 16 = 0 := rfl

omit [FloatOps F] in
/-- A product over the windows, written out. -/
theorem wins_eq (Φ : Fin cfg0.W → sProp 𝕄) : bigSep Finset.univ Φ = iprop(Φ (0 : Fin 3) ∗ Φ (1 : Fin 3) ∗ Φ (2 : Fin 3)) := bigSep_W0 Φ

/-- Every landing slot at what landed is every landing slot at something. -/
theorem landed_any (c : Dev nD) : (bigSep Finset.univ fun k : Slot => landAt c k (sent m ρ k (dst (!k.1) c))) ⊢ iprop(landDir (F := F) c true ∗ landDir c false) := by
  rw [bigSep_univ_prod (fun k : Slot => landAt c k (sent m ρ k (dst (!k.1) c))), bool_eq]
  unfold landDir
  refine BI.sep_mono (bigSep_mono fun k _ => ?_) (bigSep_mono fun k _ => ?_)
  · show landAt c (true, k) (sent m ρ (true, k) (dst false c)) ⊢ landAny c (true, k)
    unfold landAny; iintro H; iexists _; iexact H
  · show landAt c (false, k) (sent m ρ (false, k) (dst true c)) ⊢ landAny c (false, k)
    unfold landAny; iintro H; iexists _; iexact H

/-- The whole program: from what the launch hands the device to what the device leaves. -/
theorem device_run (c : Dev nD) (o : S512x2048.Idx → Elt F .f32) {Q : PUnit → sProp (MT nD τ sig Unit (Elt F) ℕ UU ℕ)} :
    iprop(Φ₀ m ρ c ∗ Owes c 0 ∗ xAt m ρ c ∗ wAt m ρ c ∗ owns (c : Thread nD τ) oM fullShare o)
      ⊢ iprop(((Φ₁ c ∗ Owes c 16 ∗ xAt m ρ c ∗ wAt m ρ c ∗ owns (c : Thread nD τ) oM fullShare (outV m ρ c)) -∗ Q ⟨⟩)
        -∗ wp frame (wpE (defs₀ (F := F)) 𝒱₀ (c : Thread nD τ) none) Set.univ (cc0_body xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0) Q) := by
  unfold Φ₀ Φ₁ start Parts
  iintro ⟨⟨⟨⟨%K, #HR, Hlin⟩, Hcr, #Hlev⟩, Hsrc, ⟨HlT, HlF⟩, Hkept, Hown⟩, HO, Hx, Hw, Ho⟩ Hk
  ihave Hs := (sorted (F := F) c) $$ [Hlin Hcr]
  · isplitl [Hlin] <;> iassumption
  icases Hs with ⟨HsF, HsT, Hpend, Hawait⟩
  ihave Ho := (out_split (F := F) c o) $$ Ho
  iapply (program_walk m ρ K c) $$ [HO HsF HsT HlT HlF Hx Hw Hown Ho Hsrc Hpend Hawait Hkept]
  · isplitr; · iexact HR
    isplitr; · iexact Hlev
    isplitl [HO]; · iexact HO
    isplitl [HsF HlT HlF]
    · isplitl [HsF]; · iexact HsF
      isplitl [HlT] <;> iassumption
    isplitl [HsT]; · iexact HsT
    isplitl [Hx]; · iexact Hx
    isplitl [Hw]; · iexact Hw
    isplitl [Hown]; · iexact Hown
    isplitl [Ho]; · iexact Ho
    isplitl [Hsrc]; · iexact Hsrc
    isplitl [Hpend]; · iexact Hpend
    isplitl [Hawait] <;> iassumption
  unfold Done Arrived
  simp only [bigSep_sep']
  iintro ⟨HO, ⟨HzF, HzT⟩, Hx, Hw, Hown, Ho, ⟨Hsrc, HzS⟩, ⟨Hland, HzR⟩, Hkept⟩
  iapply Hk
  isplitl [HzF HzT Hown Hsrc HzS Hland HzR Hkept]
  · isplitl [Hsrc Hland Hkept Hown]
    · isplitl [Hsrc]; · iexact Hsrc
      isplitl [Hland]; · iapply (landed_any m ρ c); iexact Hland
      isplitl [Hkept]; · iexact Hkept
      iexact Hown
    isplitl [HzF]; · iexact HzF
    isplitl [HzT]; · iexact HzT
    isplitl [HzR]; · iexact HzR
    iexact HzS
  isplitl [HO]; · iexact HO
  isplitl [Hx]; · iexact Hx
  isplitl [Hw]; · iexact Hw
  iapply (out_join m ρ c); iexact Ho

abbrev stg (c : Dev nD) (b : Ref sig .tc) (X : b.ty.Contents (Elt F)) : sProp 𝕄 := owns (c : Thread nD τ) (Memref.whole b) fullShare X

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (outV m ρ c))

set_option maxRecDepth 20000 in
/-- The program of device `c` meets what the launch asks of it. -/
theorem body_obligation (c : Dev nD) : BodyObligation (dats (F := F) m ρ 0 c) (defs₀ (F := F)) 𝒱₀ () Set.univ := fun t => by
  rw [fin_N t]
  rw [wins_eq, wins_eq]
  show bodyPre m ρ c ⊢ wp frame (wpE (defs₀ (F := F)) 𝒱₀ c none) Set.univ (cc0_body xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scoped0) (fun _ => bodyPost m ρ c)
  unfold bodyPre bodyPost Dat.owesAt Pipeline.owesWithin
  iintro ⟨HΦ, ⟨%W, %hW, HO⟩, ⟨%d0, Hx⟩, ⟨%d1, Hw⟩, ⟨%d2, Ho⟩⟩
  iapply (device_run m ρ c ((dats m ρ 0 c).before (2 : Fin 3) t₀ d2)) $$ [HΦ HO Hx Hw Ho]
  · isplitl [HΦ]; · iexact HΦ
    isplitl [HO]; · unfold Owes; iexists W; iexact HO
    isplitl [Hx]
    · unfold xAt
      rw [show (dats m ρ 0 c).before (0 : Fin 3) t₀ d0 = xstg m ρ c from by unfold Dat.before; rw [if_pos (fetch0_0 t₀)]; rfl]
      iexact Hx
    isplitl [Hw]
    · unfold wAt
      rw [show (dats m ρ 0 c).before (1 : Fin 3) t₀ d1 = wstg m ρ c from by unfold Dat.before; rw [if_pos (fetch0_1 t₀)]; rfl]
      iexact Hw
    iexact Ho
  iintro ⟨HΦ, HO, Hx, Hw, Ho⟩
  isplitl [HΦ]; · iexact HΦ
  isplitl [HO]
  · unfold Owes; icases HO with ⟨%W', HO⟩
    iexists W'; isplitr; · ipureintro; exact fun _ _ => Or.inl trivial
    rw [show (dats m ρ 0 c).owed t₀.succ = owed c 16 from rfl]
    iexact HO
  isplitl [Hx]; · unfold xAt; iexact Hx
  isplitl [Hw]; · unfold wAt; iexact Hw
  iexact Ho

/-! ## The cells and the tokens of all devices -/

/-- The kernel's own semaphores are different ones, -/
theorem osem_injective : Function.Injective osem := fun i j h => by
  have h' := csem_injective h
  rcases i with u | k <;> rcases j with u' | k'
  · rfl
  · cases h'
  · cases h'
  · exact congrArg Sum.inr (Sum.inr.inj h')

/-- and none of them is the staging's. -/
theorem ownSemFacts : Pipeline.OwnSemFacts cfg0.spec osem where
  isScoped i := by revert i; decide +kernel
  inj := osem_injective
  disj i w s h := by
    have h' := decode_csem (ownCix i)
    rw [show csem (ownCix i) = .dma ((cfg0.win w).sem s) from h, decode_stage] at h'
    cases h'

/-- Each window is held whole. -/
theorem share_eq (c : Dev nD) (w : Fin cfg0.W) : (dats m ρ 0 c).share w = fullShare := by unfold Dat.share; split <;> rfl

/-- Cells of different devices or different names are different. -/
theorem cell_injective : Function.Injective (fun ci : Dev nD × Cix => cell ci.1 ci.2) := by
  rintro ⟨c, i⟩ ⟨c', i'⟩ h
  have h1 : c = c' := congrArg (fun g : GSem nD τ sig => g.1.1) h
  have h2 : i = i' := csem_injective (congrArg Prod.snd h)
  rw [h1, h2]
def allCells : Finset (GSem nD τ sig) := Finset.univ.map ⟨_, cell_injective⟩

/-- So are the tokens of their duties. -/
theorem tokOf_injective : Function.Injective (fun ct : Dev nD × Tok => tokOf ct.1 ct.2) := by
  rintro ⟨c, t⟩ ⟨c', t'⟩ h
  have hg (c : Dev nD) (t : Tok) : (tokOf c t).1 = cell c (match t with | .inl (b, _) => .inl b | .inr i => .inr i) := by rcases t with ⟨b, d⟩ | i <;> rfl
  have h1 := congrArg (fun x : GSem nD τ sig × ℕ × Bool => x.1) h
  simp only [hg] at h1
  have h2 := cell_injective (a₁ := (c, _)) (a₂ := (c', _)) h1
  have hc : c = c' := congrArg Prod.fst h2
  have ht := congrArg Prod.snd h2
  rcases t with ⟨b, d⟩ | i <;> rcases t' with ⟨b', d'⟩ | i'
  · have hd : d = d' := congrArg (fun x : GSem nD τ sig × ℕ × Bool => x.2.2) h
    rw [hc, hd, Sum.inl.inj ht]
  · cases ht
  · cases ht
  · rw [hc, Sum.inr.inj ht]
def allToks : Finset (GSem nD τ sig × ℕ × Bool) := Finset.univ.map ⟨_, tokOf_injective⟩

def u₀ : UU :=
  (initOf (Pipeline.cells cfgs cellOf_inj) (Pipeline.launchToks cfgs cellOf_inj), initOf allCells allToks)

/-- The tokens of device `c`'s own cells. -/
def toks (c : Dev nD) : sProp 𝕄 := bigSep Finset.univ fun t : Tok => dutyTok ER (tokOf c t).1 (tokOf c t).2.1 (tokOf c t).2.2

/-- What the launch element deals device `c`. -/
def G (c : Dev nD) : sProp 𝕄 :=
  iprop((bigSep Finset.univ fun i : Cix => roundState ER (rd m ρ) (cell c i) 0)
    ∗ (bigSep Finset.univ fun i : Cix => iprop(atPos ER (cell c i) 0 ∅ 0 ∗ reached ER (cell c i) 0)) ∗ toks c)
/-- What all devices together make of it. -/
def G' (c : Dev nD) : sProp 𝕄 := iprop(∃ K, records m ρ K ∗ linear c)

omit [FloatOps F] in
/-- Over all cells of all devices, device by device. -/
theorem allCells_eq (Φ : GSem nD τ sig → sProp 𝕄) :
    bigSep allCells Φ = bigSep Finset.univ fun c : Dev nD => bigSep Finset.univ fun i : Cix => Φ (cell c i) := by
  unfold allCells; rw [bigSep_map, bigSep_univ_prod]; rfl

/-- At the launch every cell's state and every duty's token can be made. -/
theorem fund_all : BI.own (ER (initOf allCells allToks)) ⊢ (|==> bigSep Finset.univ (G m ρ) : sProp 𝕄) := by
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (rd m ρ) allCells allToks) $$ HX with ⟨Hst, Hr, Hat, Htok⟩
  imodintro
  ihave Hst' := (Entails.of_eq (allCells_eq fun g => roundState ER (rd m ρ) g 0)) $$ Hst
  ihave Hat' := (Entails.of_eq (allCells_eq (F := F) fun g => atPos ER g 0 ∅ 0)) $$ Hat
  ihave Hr' := (Entails.of_eq (allCells_eq (F := F) fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
/-- The kernel's own semaphores at zero. -/
theorem ownSems0_eq (c : Dev nD) : (Pipeline.ownSems0 (Ix := Unit) (Name := ℕ) (U := UU) (Lvl := ℕ) (Val := Elt F) (τ := τ) osem c : sProp 𝕄)
    = iprop(semVal (cell c (.inl true)) 0 ∗ (bigSep Finset.univ fun k : Slot => semVal (cell c (.inr (true, k))) 0)
      ∗ bigSep Finset.univ fun k : Slot => semVal (cell c (.inr (false, k))) 0) := by
  unfold Pipeline.ownSems0
  rw [bigSep_univ_sum, bigSep_univ_prod, bool_eq, bigSep_univ_eq_bigSepL [()] (by decide) (by decide), bigSepL_singleton]; rfl
omit [FloatOps F] in
/-- The entry handshake's is the one that is not the kernel's own. -/
theorem unscopedSems0_eq (c : Dev nD) : (unscopedSems0 c : sProp 𝕄) = semVal (cell c (.inl false)) 0 := by
  unfold unscopedSems0; rw [bigSep_eq_bigSepL_of_eq [SemLoc.reg barS] (by decide) (by decide)]; rfl

omit [FloatOps F] in
/-- A device's own semaphores at zero, cell by cell. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Cix => semVal (cell c i) 0 : sProp 𝕄) := by
  rw [ownSems0_eq, unscopedSems0_eq, cells_eq]
  iintro ⟨⟨HT, HR, HS⟩, HF⟩
  isplitl [HT HF]
  · isplitl [HT] <;> iassumption
  isplitl [HR] <;> iassumption

/-- One device's cells open for business. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (rd m ρ) κ (cell c i)))
          ∗ (bigSep Finset.univ fun i => iprop(atPos ER (cell c i) 0 ∅ 0 ∗ reached ER (cell c i) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Cix => semVal (cell c i) 0) ∗ bigSep Finset.univ fun i : Cix => roundState ER (rd m ρ) (cell c i) 0)
      ⊢ (|={Set.univ}=> bigSep Finset.univ fun i => iprop(∃ κ : ℕ, cellInv ER (rd m ρ) κ (cell c i)) : sProp 𝕄) from by
        rw [← bigSep_sep']
        exact (bigSep_mono fun i _ => (Rounds.body_intro ER (rd m ρ) (cell c i)).trans inv_alloc).trans (bigSep_fupd _ _)) $$ [Hv Hst] with Hinv
  · isplitl [Hv] <;> iassumption
  imodintro
  isplitl [Hinv]; · iexact Hinv
  isplitl [Hat]; · iexact Hat
  iexact Htok

/-- Device and token, to the device the token comes from and the token. -/
def around : Dev nD × Tok ≃ Dev nD × Tok where
  toFun ct := (turn ct.2 ct.1, ct.2)
  invFun ct := ((turn ct.2).symm ct.1, ct.2)
  left_inv ct := Prod.ext ((turn ct.2).symm_apply_apply ct.1) rfl
  right_inv ct := Prod.ext ((turn ct.2).apply_symm_apply ct.1) rfl

omit [FloatOps F] in
/-- Every token goes to the device that pays with it. -/
theorem toks_around : (bigSep Finset.univ fun c : Dev nD => (toks c : sProp 𝕄))
    = bigSep Finset.univ fun c : Dev nD => bigSep Finset.univ fun t : Tok => dutyTok ER (tokOf (turn t c) t).1 (tokOf (turn t c) t).2.1 (tokOf (turn t c) t).2.2 := by
  unfold toks
  rw [← bigSep_univ_prod fun ct : Dev nD × Tok => (dutyTok ER (tokOf ct.1 ct.2).1 (tokOf ct.1 ct.2).2.1 (tokOf ct.1 ct.2).2.2 : sProp 𝕄), bigSep_univ_equiv around, bigSep_univ_prod]
  rfl

omit [FloatOps F] in
/-- A fact that holds for good serves every member of a family. -/
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens, sorted by the device that pays: each goes to the neighbour that owes it. -/
theorem regroup :
    (bigSep Finset.univ fun c : Dev nD => iprop((bigSep Finset.univ fun i => iprop(∃ κ : ℕ, cellInv ER (rd m ρ) κ (cell c i)))
          ∗ (bigSep Finset.univ fun i => iprop(atPos ER (cell c i) 0 ∅ 0 ∗ reached ER (cell c i) 0)) ∗ toks c) : sProp 𝕄)
      ⊢ bigSep Finset.univ (G' m ρ) := by
  rw [bigSep_sep', bigSep_sep', ← bigSep_univ_prod (fun ci : Dev nD × Cix => iprop(∃ κ : ℕ, cellInv ER (rd m ρ) κ (cell ci.1 ci.2))),
    bigSep_congr (s := Finset.univ) (fun (c : Dev nD) _ => bigSep_sep' Finset.univ (fun i : Cix => (atPos ER (cell c i) 0 ∅ 0 : sProp 𝕄)) (fun i => reached ER (cell c i) 0)),
    bigSep_sep', ← bigSep_univ_prod (fun ci : Dev nD × Cix => (reached ER (cell ci.1 ci.2) 0 : sProp 𝕄)), toks_around]
  iintro ⟨HI, ⟨Hat, #HV⟩, Htok⟩
  ihave HK := (BI.bigSep_exists_pi Finset.univ (fun (ci : Dev nD × Cix) (κ : ℕ) => (cellInv ER (rd m ρ) κ (cell ci.1 ci.2) : sProp 𝕄))) $$ HI
  icases HK with ⟨%K, #HI⟩
  iapply (with_records (R := records m ρ K) (Φ := fun c : Dev nD => linear c) fun c _ =>
    show iprop(records m ρ K ∗ linear c) ⊢ G' m ρ c from by unfold G'; iintro H; iexists K; iexact H)
  isplitr
  · unfold records; isplitl; · iexact HI
    iexact HV
  · unfold linear
    rw [bigSep_sep']
    isplitl [Hat]; · iexact Hat
    iexact Htok

/-- All devices' cells open at once, and every device has what it starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

/-- What all devices together owe a cell: its units for every time it is listed. -/
theorem sum_oweOf (c : Dev nD) (i : Cix) : ∀ l : List (Bool × Cix), ∑ d : Dev nD, oweOf d l (cell c i) () = (l.countP fun p => decide (csem p.2 = csem i)) * units i
  | [] => by simp [oweOf]
  | p :: l => by
    have hone : ∑ d : Dev nD, (tallyAt (cell (dst p.1 d) p.2) () (units p.2) : CellTallies nD τ sig Unit) (cell c i) () = if p.2 = i then units i else 0 := by
      by_cases hp : p.2 = i
      · rw [if_pos hp, Finset.sum_eq_single (dst (!p.1) c), tallyAt_apply, dst_dst, hp, if_pos ⟨rfl, rfl⟩]
        · intro d _ hd
          rw [tallyAt_apply, if_neg]
          rintro ⟨h, -⟩
          have hc : c = dst p.1 d := congrArg (fun g : GSem nD τ sig => g.1.1) h
          exact hd (by rw [hc, dst_dst'])
        · exact fun h => absurd (Finset.mem_univ _) h
      · rw [if_neg hp]
        refine Finset.sum_eq_zero fun d _ => ?_
        rw [tallyAt_apply, if_neg]
        rintro ⟨h, -⟩
        exact hp (csem_injective (congrArg Prod.snd h)).symm
    have ih := sum_oweOf c i l
    rw [Finset.sum_congr rfl fun d _ => show oweOf d (p :: l) (cell c i) () = oweOf d l (cell c i) ()
        + (tallyAt (cell (dst p.1 d) p.2) () (units p.2) : CellTallies nD τ sig Unit) (cell c i) () from rfl, Finset.sum_add_distrib, ih, hone, List.countP_cons]
    by_cases hp : p.2 = i
    · rw [if_pos hp, if_pos (decide_eq_true (congrArg csem hp)), Nat.succ_mul]
    · rw [if_neg hp, if_neg fun h => hp (csem_injective (of_decide_eq_true h)), Nat.add_zero, Nat.add_zero]

/-- What all devices together owe a cell of device `c` at the launch. -/
theorem launch_cell (c : Dev nD) (i : Cix) :
    tallyOn (cell c i) (launchCredit (Pipeline.owing fun d => owed d 0) 0 (cell c i))
      = (tallyAt (cell c i) () ((dues.countP fun p => decide (csem p.2 = csem i)) * units i) : CellTallies nD τ sig Unit) := by
  unfold tallyAt; refine congrArg _ (Finsupp.ext fun u => ?_); cases u
  rw [Pipeline.launchCredit_owing, Finsupp.single_eq_same]
  exact sum_oweOf c i dues

/-- A handshake is owed two units, -/
theorem count_shake (b : Bool) : (dues.countP fun p => decide (csem p.2 = csem (.inl b))) * units (.inl b) = 2 := by
  have h : (dues.countP fun p => decide (csem p.2 = csem (.inl b))) = 2 := by revert b; decide +kernel
  rw [h]; rfl
/-- and a receive cell one transfer. -/
theorem count_recv (k : Slot) : (dues.countP fun p => decide (csem p.2 = csem (.inr (true, k)))) * units (.inr (true, k)) = N := by
  have h : (dues.countP fun p => decide (csem p.2 = csem (.inr (true, k)))) = 1 := by revert k; decide +kernel
  rw [h]; exact Nat.one_mul N

/-- The credits a device is owed at the launch are those it will wait with. -/
theorem creds (c : Dev nD) : (Pipeline.launchCred (fun d => owed d 0) c : sProp 𝕄) ⊢ credits c := by
  unfold Pipeline.launchCred credits
  refine (bigSep_subset (Finset.subset_univ (Finset.univ.map ⟨csem, csem_injective⟩))).trans ?_
  rw [bigSep_map, bigSep_univ_sum]
  refine BI.sep_mono (bigSep_mono fun b _ => ?_) ((Entails.of_eq ((bigSep_univ_prod _).trans (bool_eq _))).trans (sep_elim_left.trans (bigSep_mono fun k _ => ?_)))
  · exact Entails.of_eq (congrArg cred ((launch_cell c (.inl b)).trans (congrArg (tallyAt (cell c (.inl b)) ()) (count_shake b))))
  · exact Entails.of_eq (congrArg cred ((launch_cell c (.inr (true, k))).trans (congrArg (tallyAt (cell c (.inr (true, k))) ()) (count_recv k))))

/-! ## From the launch to the program and back -/

/-- What a device gets at the launch is what its program starts from. -/
theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- With its buffers and semaphores this makes up the state before the body, -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iapply (parts_of_bufs (F := F) c)
  unfold Bufs bufAny
  iexact Hr

/-- and the state after the body gives buffers and semaphores back, these at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hp, HF, HT, HR, HS⟩
  isplitl [HF]; · iexact HF
  isplitl [HT HR HS]
  · isplitl [HT]; · iexact HT
    isplitl [HR] <;> iassumption
  ihave Hb := (bufs_of_parts (F := F) c) $$ Hp
  unfold Bufs bufAny
  iexact Hb

/-- Every wait of the staging stands below all a device owes. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ dues 0 (by rw [decode_stage]; exact le_rfl) (by decide +kernel)
    · rw [show (dats m ρ 0 c).owed ⟨_ + 1, ht⟩ = 0 from rfl, MayWait_zero]; iintro -; iempintro

/-! ## The run -/

def finalA (c : Dev nD) (w : Fin cfg0.W) : Buf (Elt F) ((cfg0.win w).arr.view.loc (c : Thread nD τ)) := (dats m ρ 0 c).arrAt w cfg0.N

def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every execution of the four devices ends, each device's arrays holding what
    `finalA` says and every semaphore at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments hold after the run what they held. -/
theorem finalA_x (c : Dev nD) : finalA m ρ c (0 : Fin 3) = (s₀ m ρ).mem (win0_0.arr.view.loc (c : Thread nD τ)) :=
  (dats (F := F) m ρ 0 c).arrAt_in (0 : Fin 3) rfl _
/-- The same of the second argument. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdealProof

end
-- ==== Proof.KernelIdealValue.lean ====
/-
What a device's result is over the extended reals.

Each payload is read at an index: a block product is a sum over the 512 positions it contracts, a hop adds a
product to what landed. The landed sums are followed around the ring, and the four sums of 512 products are put
together to the one sum of 2048 products that the reference takes.
-/
module

public import proofs.«01_k».proof.Proof.KernelIdealRun
public import Idealize.ShloMosaic.Lib.Pointwise
public import Idealize.ShloMosaic.Lib.ValueIdx
public import Idealize.ShloMosaic.Lib.Pipeline.ValueKit

@[expose] public section

set_option maxRecDepth 16384

noncomputable section

namespace Cert.KernelIdealProof

open Cert.KernelIdeal Cert.KernelIdeal.Gen
open Idealize.ShloMosaic
open Idealize.ShloMosaic.TcCoe
open Idealize.SL.Sem

/-! ## The payloads at an index -/

/-- A slot's element at a row and a column. -/
abbrev at4 (i : S512x512.Idx) : S1x1x512x512.Idx := ix4 (0 : Fin 1) (0 : Fin 1) (i 0) (i 1)

/-- The activation of one element, as the kernel spells it. -/
def act (y : EReal) : EReal :=
  Ideal.ofBits .f32 0x3F000000#32 * y
    * (1 + Ideal.tanh (Ideal.ofBits .f32 0x3F4C422A#32 * (y + Ideal.ofBits .f32 0x3D372713#32 * y * y * y)))

/-- The product sent at hop 0, at an element: the sum over the contracted positions. -/
theorem pay1_at (X W : Vec Ideal S512x512 .f32) (i : S512x512.Idx) :
    k0_pay1 (F := Ideal) X W (at4 i) = ∑ k : Fin 512, X (ix2 (i 0) k) * W (ix2 k (i 1)) := by
  unfold k0_pay1
  pointwise

/-- The product kept for a later hop, the same sum. -/
theorem pay9_at (X W : Vec Ideal S512x512 .f32) (i : S512x512.Idx) :
    k0_pay9 (F := Ideal) X W (at4 i) = ∑ k : Fin 512, X (ix2 (i 0) k) * W (ix2 k (i 1)) := by
  unfold k0_pay9
  pointwise

/-- The product of the device's own rows, the same sum. -/
theorem pay17_at (X : Vec Ideal S512x512 .f32) (W : Vec Ideal S512x2048 .f32) (i : S512x2048.Idx) :
    k0_pay17 (F := Ideal) X W i = ∑ k : Fin 512, X (ix2 (i 0) k) * W (ix2 k (i 1)) := by
  unfold k0_pay17
  pointwise

/-- A hop adds what landed to the kept product. -/
theorem pay18_at (P : Vec Ideal S1x1x512x512 .f32) (L : Vec Ideal S1x1x512x512 .bf16) (i : S512x512.Idx) :
    k0_pay18 (F := Ideal) P L (at4 i) = P (at4 i) + L (at4 i) := by
  unfold k0_pay18
  pointwise

/-- The last step activates the own product plus what landed. -/
theorem pay30_at (P : Vec Ideal S512x512 .f32) (L : Vec Ideal S1x1x512x512 .bf16) (i : S512x512.Idx) :
    k0_pay30 (F := Ideal) P L i = act (P i + L (at4 i)) := by
  unfold k0_pay30
  pointwise
  rfl

/-! ## Sums around the ring -/

variable (m : (ℓ : Loc nD τ sig) → Buf (Elt Ideal) ℓ) (ρ : Dev nD → PrngReg)

/-- Device `d`'s share of the product at a row and a column of the whole: the sum over its 512 positions. -/
def part (d : Dev nD) (r n : Fin 2048) : EReal :=
  ∑ k : Fin 512, xstg m ρ d (ix2 r k) * wstg m ρ d (ix2 k n)

/-- Row `i` of block `b` of the rows. -/
def rowOf (b : Fin 4) (i : Fin 512) : Fin 2048 := ⟨512 * b.val + i.val, by omega⟩

/-- Whose rows the product of hop `h` is for. -/
def target (d : Bool) (h : Fin 3) (c : Dev nD) : Fin 4 := match d with
  | true => ⟨(c.val + 3 - h.val) % 4, Nat.mod_lt _ (by decide)⟩
  | false => ⟨(c.val + 1 + h.val) % 4, Nat.mod_lt _ (by decide)⟩

/-- Where the rows for a hop to the right start; -/
theorem off1_rows (c : Dev nD) (h : Fin 3) : k0_off1 c (BitVec.ofNat 32 h.val) = ![512 * (target true h c).val, 0] := by
  revert c h; decide +kernel
/-- for a hop to the left; -/
theorem off2_rows (c : Dev nD) (h : Fin 3) : k0_off2 c (BitVec.ofNat 32 h.val) = ![512 * (target false h c).val, 0] := by
  revert c h; decide +kernel
/-- and the device's own. -/
theorem off3_rows (c : Dev nD) : k0_off3 c = ![512 * c.val, 0] := by
  revert c; decide +kernel

/-- Rows cut out of `x`, at an element. -/
theorem rows_at {o : Fin 2 → ℕ} (ho : ∀ a, o a + S512x512.size a ≤ S2048x512.size a) (b : Fin 4) (h : o = ![512 * b.val, 0]) (i k : Fin 512) :
    (Rect.unit (s := S2048x512) o S512x512.size ho).emb (ix2 i k) = ix2 (rowOf b i) k := by
  subst h
  funext a
  apply Fin.ext
  match a with
  | ⟨0, _⟩ => show 512 * b.val + 1 * i.val = 512 * b.val + i.val; omega
  | ⟨1, _⟩ => show 0 + 1 * k.val = k.val; omega

/-- The rows taken for a hop, at an element. -/
theorem xRows_at (d : Bool) (h : Fin 3) (c : Dev nD) (i k : Fin 512) :
    xRows m ρ d h c (ix2 i k) = xstg m ρ c (ix2 (rowOf (target d h c) i) k) := by
  cases d
  · exact congrArg (xstg m ρ c) (rows_at _ _ (off2_rows c h) i k)
  · exact congrArg (xstg m ρ c) (rows_at _ _ (off1_rows c h) i k)

/-- A quarter of the columns, at an element. -/
theorem col_at (j : Fin 4) (k n : Fin 512) : (colRect j).emb (ix2 k n) = ix2 k (rowOf j n) := by
  funext a
  apply Fin.ext
  match a with
  | ⟨0, _⟩ => show 0 + 1 * k.val = k.val; omega
  | ⟨1, _⟩ => show 512 * j.val + 1 * n.val = 512 * j.val + n.val; omega

/-- A kept product and a sent one are the device's share of the rows they are for. -/
theorem kept_at (d : Bool) (h : Fin 3) (q : Fin 2) (c : Dev nD) (i : S512x512.Idx) :
    kept m ρ d h q c (at4 i) = part m ρ c (rowOf (target d h c) (i 0)) (rowOf (col d q) (i 1)) := by
  unfold kept part
  rw [pay9_at]
  refine Finset.sum_congr rfl fun k _ => ?_
  exact congrArg₂ (fun a b : EReal => a * b) (xRows_at m ρ d h c _ _) (congrArg (wstg m ρ c) (col_at _ _ _))
/-- The same of the product sent at hop 0. -/
theorem sent0_at (d : Bool) (q : Fin 2) (c : Dev nD) (i : S512x512.Idx) :
    sent0 m ρ d q c (at4 i) = part m ρ c (rowOf (target d 0 c) (i 0)) (rowOf (col d q) (i 1)) := by
  unfold sent0 part
  rw [pay1_at]
  refine Finset.sum_congr rfl fun k _ => ?_
  exact congrArg₂ (fun a b : EReal => a * b) (xRows_at m ρ d 0 c _ _) (congrArg (wstg m ρ c) (col_at _ _ _))

/-- The own product is the device's share of its own rows. -/
theorem own_at (c : Dev nD) (r : Fin 512) (n : Fin 2048) : own m ρ c (ix2 r n) = part m ρ c (rowOf c r) n := by
  unfold own part
  rw [pay17_at]
  refine Finset.sum_congr rfl fun k _ => ?_
  refine congrArg₂ (fun a b : EReal => a * b) (congrArg (xstg m ρ c) (rows_at _ c (off3_rows c) _ _)) (congrArg (wstg m ρ c) ?_)
  funext a
  apply Fin.ext
  match a with
  | ⟨0, _⟩ => show 0 + 1 * k.val = k.val; omega
  | ⟨1, _⟩ => show 0 + 1 * n.val = n.val; omega

/-- The product that arrives at hop 2 is for the rows of the device it arrives at; so are the two it was added to. -/
theorem target_2 (d : Bool) (c : Dev nD) : target d 2 (dst (!d) c) = c := by revert d c; decide
/-- The one sent two devices before, at hop 1. -/
theorem target_1 (d : Bool) (c : Dev nD) : target d 1 (dst (!d) (dst (!d) c)) = c := by revert d c; decide
/-- The one sent three devices before, at hop 0. -/
theorem target_0 (d : Bool) (c : Dev nD) : target d 0 (dst (!d) (dst (!d) (dst (!d) c))) = c := by revert d c; decide

/-- Going around the ring in either direction meets every device once. -/
theorem ring_sum (d : Bool) (c : Dev nD) (f : Dev nD → EReal) :
    f c + (f (dst d c) + (f (dst d (dst d c)) + f (dst d (dst d (dst d c))))) = ∑ e : Fin 4, f e := by
  rw [Fin.sum_univ_four]
  cases d <;> fin_cases c
  · show f 0 + (f 3 + (f 2 + f 1)) = _; ac_rfl
  · show f 1 + (f 0 + (f 3 + f 2)) = _; ac_rfl
  · show f 2 + (f 1 + (f 0 + f 3)) = _; ac_rfl
  · show f 3 + (f 2 + (f 1 + f 0)) = _; ac_rfl
  · show f 0 + (f 1 + (f 2 + f 3)) = _; ac_rfl
  · show f 1 + (f 2 + (f 3 + f 0)) = _; ac_rfl
  · show f 2 + (f 3 + (f 0 + f 1)) = _; ac_rfl
  · show f 3 + (f 0 + (f 1 + f 2)) = _; ac_rfl

/-- A quarter of a device's result: all four shares of its rows, activated. -/
theorem outQ_at (d : Bool) (q : Fin 2) (c : Dev nD) (i : S512x512.Idx) :
    outQ m ρ d q c i = act (∑ e : Fin 4, part m ρ e (rowOf c (i 0)) (rowOf (col d q) (i 1))) := by
  unfold outQ
  rw [pay30_at]
  unfold sent2
  rw [pay18_at, kept_at, target_2]
  unfold sent1
  rw [pay18_at, kept_at, target_1, sent0_at, target_0, ← ring_sum (!d) c]
  refine congrArg (fun a : EReal => act (a + _)) ?_
  rw [show (colRect (col d q)).emb i = ix2 (i 0) (rowOf (col d q) (i 1)) from by
    refine Eq.trans (congrArg (colRect (col d q)).emb (funext fun a => ?_)) (col_at (col d q) (i 0) (i 1))
    match a with
    | ⟨0, _⟩ => rfl
    | ⟨1, _⟩ => rfl]
  exact own_at m ρ c _ _

/-- A device's result at an element: the four shares of its row, activated. -/
theorem outV_at (c : Dev nD) (i : S512x2048.Idx) :
    outV m ρ c i = act (∑ e : Fin 4, part m ρ e (rowOf c (i 0)) (i 1)) := by
  have hc : rowOf (quarter i) (within i 1) = i 1 := Fin.ext (by
    show 512 * ((i 1).val / 512) + (i 1).val % 512 = (i 1).val; omega)
  have hr : within i 0 = i 0 := rfl
  have hj : ∀ j : Fin 4, outJ m ρ j c (within i) = act (∑ e : Fin 4, part m ρ e (rowOf c (within i 0)) (rowOf j (within i 1))) := fun j => by
    fin_cases j <;> exact outQ_at m ρ _ _ c _
  unfold outV
  rw [hj, hc, hr]

/-! ## The buffers -/

/-- What the launch brings is the argument. -/
theorem xstg_eq (c : Dev nD) : xstg m ρ c = m ((c : Thread nD τ).loc main_arg0) := by
  unfold xstg
  funext i
  refine congrArg (m ((c : Thread nD τ).loc main_arg0)) ?_
  funext a
  apply Fin.ext
  match a with
  | ⟨0, _⟩ => blk_simp; rw [show win0_0.index (0 : Fin 1) 0 = 0 from by decide +kernel]; omega
  | ⟨1, _⟩ => blk_simp; rw [show win0_0.index (0 : Fin 1) 1 = 0 from by decide +kernel]; omega
/-- The same of the second argument. -/
theorem wstg_eq (c : Dev nD) : wstg m ρ c = m ((c : Thread nD τ).loc main_arg1) := by
  unfold wstg
  funext i
  refine congrArg (m ((c : Thread nD τ).loc main_arg1)) ?_
  funext a
  apply Fin.ext
  match a with
  | ⟨0, _⟩ => blk_simp; rw [show win0_1.index (0 : Fin 1) 0 = 0 from by decide +kernel]; omega
  | ⟨1, _⟩ => blk_simp; rw [show win0_1.index (0 : Fin 1) 1 = 0 from by decide +kernel]; omega

/-- The result array ends holding `outV`. -/
theorem finalA_out (c : Dev nD) : finalA m ρ c (2 : Fin 3) = outV m ρ c := by
  unfold finalA
  refine (dats m ρ 0 c).arrAt_eq_of_after_last (2 : Fin 3) t₀ (by decide +kernel) _ fun j => ?_
  blk_simp
  rfl

end Cert.KernelIdealProof

end
-- ==== Proof.Whole.lean ====
/-
The reference's product against the devices' shares.

The reference's result at an element is the activation of one sum of 2048 products. A device holds 512 columns of
`x` and the 512 rows of `w` they meet, so the four devices' shares of that element are the stretches of this sum.
-/
module

public import proofs.«01_k».proof.Proof.KernelIdealValue
public import proofs.«01_k».proof.Proof.Gen.ReferenceIdeal.Run

@[expose] public section

set_option maxRecDepth 16384

noncomputable section

namespace Cert.Whole

open Idealize.ShloMosaic
open Idealize.ShloMosaic.TcCoe
open Cert.KernelIdealProof

/-- The shape of the whole arrays. -/
abbrev Sq : Shape := ⟨2, ![2048, 2048]⟩

open Cert.ReferenceIdeal Cert.ReferenceIdeal.Gen in
/-- The reference's result from its two arguments. -/
def result (X W : FVec Ideal S2048x2048 .f32) : Vec Ideal S2048x2048 .f32 :=
  have D : FVec Ideal S2048x2048 .f32 := Host.dotGeneral dot_S2048x2048_S2048x2048_S2048x2048_1_0_0_1_n_n none X W
  mulf (mulf (broadcastInDim S2048x2048 ![] bcast_S_S2048x2048 (constant S_ .f32 0x3F000000#32)) D)
    (addf (broadcastInDim S2048x2048 ![] bcast_S_S2048x2048 (constant S_ .f32 0x3F800000#32))
      (Host.tanh (mulf (broadcastInDim S2048x2048 ![] bcast_S_S2048x2048 (constant S_ .f32 0x3F4C422A#32))
        (addf D (mulf (broadcastInDim S2048x2048 ![] bcast_S_S2048x2048 (constant S_ .f32 0x3D372713#32)) (mulf (mulf D D) D))))))

/-- It at an element: the activation of the sum of 2048 products. -/
theorem result_at (X W : Vec Ideal Sq .f32) (i : Sq.Idx) :
    result X W i = act (∑ k : Fin 2048, X (ix2 (i 0) k) * W (ix2 k (i 1))) := by
  unfold result act
  pointwise
  simp only [mul_assoc]

/-- Where each device holds its columns of `X` and its rows of `W`, its result is its rows of the reference's. -/
theorem block_eq (m : (ℓ : Loc KernelIdeal.nD KernelIdeal.τ KernelIdeal.sig) → Buf (Elt Ideal) ℓ) (ρ : Dev KernelIdeal.nD → PrngReg)
    (X W : Vec Ideal Sq .f32)
    (hx : ∀ c : Dev KernelIdeal.nD, m ((c : Thread KernelIdeal.nD KernelIdeal.τ).loc KernelIdeal.main_arg0) = Layout.block ⟨2, ![2048, 512]⟩ Sq 1 4 c X)
    (hw : ∀ c : Dev KernelIdeal.nD, m ((c : Thread KernelIdeal.nD KernelIdeal.τ).loc KernelIdeal.main_arg1) = Layout.block ⟨2, ![512, 2048]⟩ Sq 0 4 c W)
    (c : Dev KernelIdeal.nD) :
    outV m ρ c = Layout.block ⟨2, ![512, 2048]⟩ Sq 0 4 c (result X W) := by
  funext i
  rw [outV_at, Layout.block_apply, result_at]
  refine congrArg act ?_
  unfold part
  refine Fin.sum_mul_add_congr (f := fun k : Fin 2048 => X (ix2 _ k) * W (ix2 k _)) fun e k hl => ?_
  rw [xstg_eq, wstg_eq, hx, hw, Layout.block_apply, Layout.block_apply]
  refine congrArg₂ (fun a b : EReal => a * b) (congrArg X ?_) (congrArg W ?_)
  · funext a
    apply Fin.ext
    match a with
    | ⟨0, _⟩ => show 512 * c.val + (i 0).val = c.val * 512 + (i 0).val; omega
    | ⟨1, _⟩ => rfl
  · funext a
    apply Fin.ext
    match a with
    | ⟨0, _⟩ => rfl
    | ⟨1, _⟩ => rfl

end Cert.Whole

end
-- ==== Proof.lean ====
/-
The claims, assembled: the three frames from the runs of the three programs, and the equation of the kernel's
result with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealValue
public import proofs.«01_k».proof.Proof.Whole
public import Idealize.ShloMosaic.Adequacy
public import Idealize.ShloMosaic.Init

@[expose] public section

noncomputable section

namespace Cert.Proof

open Idealize.ShloMosaic Idealize.SL.Sem Cert.Kernel

/-- Every run of the kernel ends with the arguments unchanged and every semaphore at zero. -/
theorem frame_Kernel : quiescent_Kernel (hKernel := Cert.Kernel.Gen.facts) := fun m g _ =>
  (θ_run _ _ _).mono (fun _ h => ⟨fun c => ⟨(h.1 c 0).trans (Cert.KernelProof.finalA_x m g c), (h.1 c 1).trans (Cert.KernelProof.finalA_w m g c)⟩, h.2⟩)
    (Cert.KernelProof.run_main m g)

/-- The same of its reading over the extended reals. -/
theorem frame_KernelIdeal : quiescent_KernelIdeal (hKernelIdeal := Cert.KernelIdeal.Gen.facts) := fun m g _ =>
  (θ_run _ _ _).mono (fun _ h => ⟨fun c => ⟨(h.1 c 0).trans (Cert.KernelIdealProof.finalA_x m g c), (h.1 c 1).trans (Cert.KernelIdealProof.finalA_w m g c)⟩, h.2⟩)
    (Cert.KernelIdealProof.run_main m g)

/-- Every run of the reference ends with the arguments unchanged; it has no semaphore. -/
theorem frame_ReferenceIdeal : quiescent_ReferenceIdeal (hReferenceIdeal := Cert.ReferenceIdeal.Gen.facts) := fun m g _ =>
  (θ_run _ _ _).mono (fun _ h => ⟨fun c => (h c).2, sem_eq_zero_of_no_sems (by decide) _⟩)
    (Cert.ReferenceIdeal.Value.run m g)

/-- From arguments that are the devices' parts of whole ones, each device's result ends as its rows of the reference's result. -/
theorem equal : algebraic_KernelIdeal_ReferenceIdeal (hKernelIdeal := Cert.KernelIdeal.Gen.facts) (hReferenceIdeal := Cert.ReferenceIdeal.Gen.facts) :=
  fun m g m' g' _ hm => ⟨Cert.Whole.result _ _,
    (θ_run _ _ _).mono (fun _ h c => ⟨(h.1 c 2).trans ((Cert.KernelIdealProof.finalA_out m g c).trans
        (Cert.Whole.block_eq m g _ _ (fun d => (hm d).1) (fun d => (hm d).2) c)),
      (h.1 c 0).trans (Cert.KernelIdealProof.finalA_x m g c), (h.1 c 1).trans (Cert.KernelIdealProof.finalA_w m g c)⟩)
      (Cert.KernelIdealProof.run_main m g),
    (θ_run _ _ _).mono (fun _ h => h 0) (Cert.ReferenceIdeal.Value.run m' g')⟩

/-- All the claims. -/
theorem claim : Cert.Claim := ⟨Cert.Kernel.Gen.facts, Cert.KernelIdeal.Gen.facts, Cert.ReferenceIdeal.Gen.facts,
  frame_Kernel, frame_KernelIdeal, frame_ReferenceIdeal, trivial, equal⟩

end Cert.Proof

end
